-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_xqk_KernelIdeal [hPre_finite_xqk_KernelIdeal : Cert.Pre_finite_xqk_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_xqk_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_xqk_ReferenceIdeal [hPre_finite_xqk_ReferenceIdeal : Cert.Pre_finite_xqk_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_xqk_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_xqk_KernelIdeal [hKernelIdeal : Cert.KernelIdeal.Facts] [hPre_finite_xqk_KernelIdeal : Cert.Pre_finite_xqk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_xqk_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_xqk_ReferenceIdeal [hReferenceIdeal : Cert.ReferenceIdeal.Facts] [hPre_finite_xqk_ReferenceIdeal : Cert.Pre_finite_xqk_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_xqk_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_xqk_KernelIdeal [hKernelIdeal : Cert.KernelIdeal.Facts] [hReferenceIdeal : Cert.ReferenceIdeal.Facts] [hPre_finite_xqk_KernelIdeal : Cert.Pre_finite_xqk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_xqk_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![16, 128, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 512]⟩ ⟨2, ![512, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 512]⟩ ⟨2, ![4096, 512]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 512]⟩ ⟨2, ![512, 4096]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 512]⟩ ⟨2, ![512, 4096]⟩ 1 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![16, 128, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_xqk_KernelIdeal : Cert.Pre_finite_xqk_KernelIdeal.Facts) (hPre_finite_xqk_ReferenceIdeal : Cert.Pre_finite_xqk_ReferenceIdeal.Facts),
    quiescent_Kernel (hKernel := hKernel)
    ∧ quiescent_KernelIdeal (hKernelIdeal := hKernelIdeal)
    ∧ quiescent_KernelIdeal_pre_finite_xqk_KernelIdeal (hKernelIdeal := hKernelIdeal) (hPre_finite_xqk_KernelIdeal := hPre_finite_xqk_KernelIdeal)
    ∧ quiescent_ReferenceIdeal (hReferenceIdeal := hReferenceIdeal)
    ∧ quiescent_ReferenceIdeal_pre_finite_xqk_ReferenceIdeal (hReferenceIdeal := hReferenceIdeal) (hPre_finite_xqk_ReferenceIdeal := hPre_finite_xqk_ReferenceIdeal)
    ∧ preserves_Kernel_KernelIdeal
    ∧ algebraic_KernelIdeal_ReferenceIdeal_pre_finite_xqk_KernelIdeal (hKernelIdeal := hKernelIdeal) (hReferenceIdeal := hReferenceIdeal) (hPre_finite_xqk_KernelIdeal := hPre_finite_xqk_KernelIdeal)
-- ==== Pre_finite_xqk_KernelIdeal.lean ====
abbrev S2x128x512 : Shape := ⟨3, ![2, 128, 512]⟩
abbrev S512x512 : Shape := ⟨2, ![512, 512]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S2x128x512 .bf16) (main_arg1 : FVec F S512x512 .bf16) (main_arg2 : FVec F S512x512 .bf16) (main_arg3 : FVec F S512x512 .bf16) (main_arg4 : FVec F S512x512 .bf16) : IVec S_ 1 :=
  let main_v0 : FVec F S2x128x512 .f32 := (extf .f32 · bitsLt_bf16_f32) main_arg0
  let main_v1 : FVec F S2x128x512 .f32 := Host.absf main_v0
  let main_cst : FVec F S_ .f32 := constant S_ .f32 0x7F800000#32
  let main_v2 : FVec F S2x128x512 .f32 := broadcastInDim S2x128x512 ![] bcast_S_S2x128x512 main_cst
  let main_v3 : IVec S2x128x512 1 := cmpf .olt main_v1 main_v2
  let main_c : IVec S_ 1 := constantI S_ 1 1#1
  let main_v4 : IVec S_ 1 := (fun x v => Host.reduce IntOp.andi x v reducesTo_S2x128x512_S_d0_1_2 h_S_) main_v3 main_c
  let main_v5 : FVec F S512x512 .f32 := (extf .f32 · bitsLt_bf16_f32) main_arg1
  let main_v6 : FVec F S512x512 .f32 := Host.absf main_v5
  let main_cst_0 : FVec F S_ .f32 := constant S_ .f32 0x7F800000#32
  let main_v7 : FVec F S512x512 .f32 := broadcastInDim S512x512 ![] bcast_S_S512x512 main_cst_0
  let main_v8 : IVec S512x512 1 := cmpf .olt main_v6 main_v7
  let main_c_1 : IVec S_ 1 := constantI S_ 1 1#1
  let main_v9 : IVec S_ 1 := (fun x v => Host.reduce IntOp.andi x v reducesTo_S512x512_S_d0_1 h_S_) main_v8 main_c_1
  let main_v10 : FVec F S512x512 .f32 := (extf .f32 · bitsLt_bf16_f32) main_arg3
  let main_v11 : FVec F S512x512 .f32 := Host.absf main_v10
  let main_cst_2 : FVec F S_ .f32 := constant S_ .f32 0x7F800000#32
  let main_v12 : FVec F S512x512 .f32 := broadcastInDim S512x512 ![] bcast_S_S512x512 main_cst_2
  let main_v13 : IVec S512x512 1 := cmpf .olt main_v11 main_v12
  let main_c_3 : IVec S_ 1 := constantI S_ 1 1#1
  let main_v14 : IVec S_ 1 := (fun x v => Host.reduce IntOp.andi x v reducesTo_S512x512_S_d0_1 h_S_) main_v13 main_c_3
  let main_v15 : IVec S_ 1 := andi main_v9 main_v14
  let main_v16 : IVec S_ 1 := andi main_v4 main_v15
  main_v16
-- ==== Pre_finite_xqk_ReferenceIdeal.lean ====
abbrev S16x128x512 : Shape := ⟨3, ![16, 128, 512]⟩
abbrev S512x4096 : Shape := ⟨2, ![512, 4096]⟩
abbrev S4096x512 : Shape := ⟨2, ![4096, 512]⟩
abbrev S_ : Shape := ⟨0, ![]⟩

class Facts : Prop where
  bitsLt_bf16_f32 : FTy.bits .bf16 < FTy.bits .f32
  bcast_S_S16x128x512 : S_.BroadcastsInDim S16x128x512 (![] : Fin 0 → Fin S16x128x512.rank)
  reducesTo_S16x128x512_S_d0_1_2 : S16x128x512.ReducesTo [0, 1, 2] S_
  h_S_ : 0 < S_.numel
  bcast_S_S512x4096 : S_.BroadcastsInDim S512x4096 (![] : Fin 0 → Fin S512x4096.rank)
  reducesTo_S512x4096_S_d0_1 : S512x4096.ReducesTo [0, 1] S_

variable [Facts]

def fn {F : FTy → Type} [FloatOps F] (main_arg0 : FVec F S16x128x512 .bf16) (main_arg1 : FVec F S512x4096 .bf16) (main_arg2 : FVec F S4096x512 .bf16) (main_arg3 : FVec F S512x4096 .bf16) (main_arg4 : FVec F S512x4096 .bf16) : IVec S_ 1 :=
  let main_v0 : FVec F S16x128x512 .f32 := (extf .f32 · bitsLt_bf16_f32) main_arg0
  let main_v1 : FVec F S16x128x512 .f32 := Host.absf main_v0
  let main_cst : FVec F S_ .f32 := constant S_ .f32 0x7F800000#32
  let main_v2 : FVec F S16x128x512 .f32 := broadcastInDim S16x128x512 ![] bcast_S_S16x128x512 main_cst
  let main_v3 : IVec S16x128x512 1 := cmpf .olt main_v1 main_v2
  let main_c : IVec S_ 1 := constantI S_ 1 1#1
  let main_v4 : IVec S_ 1 := (fun x v => Host.reduce IntOp.andi x v reducesTo_S16x128x512_S_d0_1_2 h_S_) main_v3 main_c
  let main_v5 : FVec F S512x4096 .f32 := (extf .f32 · bitsLt_bf16_f32) main_arg1
  let main_v6 : FVec F S512x4096 .f32 := Host.absf main_v5
  let main_cst_0 : FVec F S_ .f32 := constant S_ .f32 0x7F800000#32
  let main_v7 : FVec F S512x4096 .f32 := broadcastInDim S512x4096 ![] bcast_S_S512x4096 main_cst_0
  let main_v8 : IVec S512x4096 1 := cmpf .olt main_v6 main_v7
  let main_c_1 : IVec S_ 1 := constantI S_ 1 1#1
  let main_v9 : IVec S_ 1 := (fun x v => Host.reduce IntOp.andi x v reducesTo_S512x4096_S_d0_1 h_S_) main_v8 main_c_1
  let main_v10 : FVec F S512x4096 .f32 := (extf .f32 · bitsLt_bf16_f32) main_arg3
  let main_v11 : FVec F S512x4096 .f32 := Host.absf main_v10
  let main_cst_2 : FVec F S_ .f32 := constant S_ .f32 0x7F800000#32
  let main_v12 : FVec F S512x4096 .f32 := broadcastInDim S512x4096 ![] bcast_S_S512x4096 main_cst_2
  let main_v13 : IVec S512x4096 1 := cmpf .olt main_v11 main_v12
  let main_c_3 : IVec S_ 1 := constantI S_ 1 1#1
  let main_v14 : IVec S_ 1 := (fun x v => Host.reduce IntOp.andi x v reducesTo_S512x4096_S_d0_1 h_S_) main_v13 main_c_3
  let main_v15 : IVec S_ 1 := andi main_v9 main_v14
  let main_v16 : IVec S_ 1 := andi main_v4 main_v15
  main_v16
-- ==== Kernel.lean ====
abbrev S2x128x512 : Shape := ⟨3, ![2, 128, 512]⟩
abbrev S512x512 : Shape := ⟨2, ![512, 512]⟩
abbrev S8x256x512 : Shape := ⟨3, ![8, 256, 512]⟩
abbrev S8 : Shape := ⟨1, ![8]⟩
abbrev S_ : Shape := ⟨0, ![]⟩
abbrev S256x512 : Shape := ⟨2, ![256, 512]⟩
abbrev S1x256x512 : Shape := ⟨3, ![1, 256, 512]⟩
abbrev S1 : Shape := ⟨1, ![1]⟩
abbrev S2x128x8x64 : Shape := ⟨4, ![2, 128, 8, 64]⟩
abbrev S2x8x128x64 : Shape := ⟨4, ![2, 8, 128, 64]⟩
abbrev S16x128x64 : Shape := ⟨3, ![16, 128, 64]⟩
abbrev S16x128x128 : Shape := ⟨3, ![16, 128, 128]⟩
abbrev S16x128 : Shape := ⟨2, ![16, 128]⟩
abbrev S16x128x1 : Shape := ⟨3, ![16, 128, 1]⟩

abbrev nBuf : Space → Nat
  | .hbm => 6
  | .vmem => 9
  | .smem => 0
  | _ => 0

abbrev bufTy : (tb : Table) → Fin (tcTables nBuf tb) → BufTy
  | .hbm, ⟨0, _⟩ => ⟨S2x128x512, .bf16⟩
  | .hbm, ⟨1, _⟩ => ⟨S512x512, .bf16⟩
  | .hbm, ⟨2, _⟩ => ⟨S512x512, .bf16⟩
  | .hbm, ⟨3, _⟩ => ⟨S512x512, .bf16⟩
  | .hbm, ⟨4, _⟩ => ⟨S512x512, .bf16⟩
  | .hbm, ⟨5, _⟩ => ⟨S2x128x512, .f32⟩
  | .local _ .vmem, ⟨0, _⟩ => ⟨S2x128x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S2x128x512, .f32⟩
  | .local _ .vmem, ⟨6, _⟩ => ⟨S8x256x512, .bf16⟩
  | .local _ .vmem, ⟨7, _⟩ => ⟨S8x256x512, .bf16⟩
  | .local _ .vmem, ⟨8, _⟩ => ⟨S8x256x512, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v36 : Index := Scalar.indexCast v2
  let c0_31 : Index := 0#32
  let c0_32 : Index := 0#32
  ![v36.toNat, 0, 0]
def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_38 : BitVec 32 := 0#32
  let c0_i32_39 : BitVec 32 := 0#32
  ![v2.toNat, 0, 0]
def k0_dev8 (d0 : Dev nD) : Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_33 : BitVec 32 := 1#32
  let v40 : BitVec 32 := Scalar.addi v2 c1_i32_33
  let c8_i32_34 : BitVec 32 := 8#32
  let v41 : BitVec 32 := Scalar.remsi v40 c8_i32_34
  let c1_i32_36 : BitVec 32 := 1#32
  let v42 : BitVec 32 := Scalar.muli v41 c1_i32_36
  let v43 : BitVec 32 := Scalar.addi c0_i32_37 v42
  v43.toNat
def k0_dev9 (d0 : Dev nD) : Nat :=
  let c0_i32_46 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_42 : BitVec 32 := 2#32
  let v52 : BitVec 32 := Scalar.addi v2 c2_i32_42
  let c8_i32_43 : BitVec 32 := 8#32
  let v53 : BitVec 32 := Scalar.remsi v52 c8_i32_43
  let c1_i32_45 : BitVec 32 := 1#32
  let v54 : BitVec 32 := Scalar.muli v53 c1_i32_45
  let v55 : BitVec 32 := Scalar.addi c0_i32_46 v54
  v55.toNat
def k0_dev10 (d0 : Dev nD) : Nat :=
  let c0_i32_55 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_51 : BitVec 32 := 3#32
  let v64 : BitVec 32 := Scalar.addi v2 c3_i32_51
  let c8_i32_52 : BitVec 32 := 8#32
  let v65 : BitVec 32 := Scalar.remsi v64 c8_i32_52
  let c1_i32_54 : BitVec 32 := 1#32
  let v66 : BitVec 32 := Scalar.muli v65 c1_i32_54
  let v67 : BitVec 32 := Scalar.addi c0_i32_55 v66
  v67.toNat
def k0_dev11 (d0 : Dev nD) : Nat :=
  let c0_i32_64 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_60 : BitVec 32 := 4#32
  let v76 : BitVec 32 := Scalar.addi v2 c4_i32_60
  let c8_i32_61 : BitVec 32 := 8#32
  let v77 : BitVec 32 := Scalar.remsi v76 c8_i32_61
  let c1_i32_63 : BitVec 32 := 1#32
  let v78 : BitVec 32 := Scalar.muli v77 c1_i32_63
  let v79 : BitVec 32 := Scalar.addi c0_i32_64 v78
  v79.toNat
def k0_dev12 (d0 : Dev nD) : Nat :=
  let c0_i32_73 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_69 : BitVec 32 := 5#32
  let v88 : BitVec 32 := Scalar.addi v2 c5_i32_69
  let c8_i32_70 : BitVec 32 := 8#32
  let v89 : BitVec 32 := Scalar.remsi v88 c8_i32_70
  let c1_i32_72 : BitVec 32 := 1#32
  let v90 : BitVec 32 := Scalar.muli v89 c1_i32_72
  let v91 : BitVec 32 := Scalar.addi c0_i32_73 v90
  v91.toNat
def k0_dev13 (d0 : Dev nD) : Nat :=
  let c0_i32_82 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_78 : BitVec 32 := 6#32
  let v100 : BitVec 32 := Scalar.addi v2 c6_i32_78
  let c8_i32_79 : BitVec 32 := 8#32
  let v101 : BitVec 32 := Scalar.remsi v100 c8_i32_79
  let c1_i32_81 : BitVec 32 := 1#32
  let v102 : BitVec 32 := Scalar.muli v101 c1_i32_81
  let v103 : BitVec 32 := Scalar.addi c0_i32_82 v102
  v103.toNat
def k0_dev14 (d0 : Dev nD) : Nat :=
  let c0_i32_91 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_87 : BitVec 32 := 7#32
  let v112 : BitVec 32 := Scalar.addi v2 c7_i32_87
  let c8_i32_88 : BitVec 32 := 8#32
  let v113 : BitVec 32 := Scalar.remsi v112 c8_i32_88
  let c1_i32_90 : BitVec 32 := 1#32
  let v114 : BitVec 32 := Scalar.muli v113 c1_i32_90
  let v115 : BitVec 32 := Scalar.addi c0_i32_91 v114
  v115.toNat
def k0_off4 (d0 : Dev nD) (c1_i32_113 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v165 : BitVec 32 := Scalar.subi v2 c1_i32_113
  let c8_i32_114 : BitVec 32 := 8#32
  let v166 : BitVec 32 := Scalar.addi v165 c8_i32_114
  let c8_i32_115 : BitVec 32 := 8#32
  let v167 : BitVec 32 := Scalar.remsi v166 c8_i32_115
  ![v167.toNat]
def k0_off5 (d0 : Dev nD) (c1_i32_113 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v165 : BitVec 32 := Scalar.subi v2 c1_i32_113
  let c8_i32_114 : BitVec 32 := 8#32
  let v166 : BitVec 32 := Scalar.addi v165 c8_i32_114
  let c8_i32_115 : BitVec 32 := 8#32
  let v167 : BitVec 32 := Scalar.remsi v166 c8_i32_115
  let c0_i32_119 : BitVec 32 := 0#32
  let c0_i32_120 : BitVec 32 := 0#32
  ![v167.toNat, 0, 0]
def k0_off6 (d0 : Dev nD) (c1_i32_113 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v165 : BitVec 32 := Scalar.subi v2 c1_i32_113
  let c8_i32_114 : BitVec 32 := 8#32
  let v166 : BitVec 32 := Scalar.addi v165 c8_i32_114
  let c8_i32_115 : BitVec 32 := 8#32
  let v167 : BitVec 32 := Scalar.remsi v166 c8_i32_115
  let v176 : Index := Scalar.indexCast v167
  let c0_123 : Index := 0#32
  let c0_124 : Index := 0#32
  ![v176.toNat, 0, 0]
def k0_dev15 (d0 : Dev nD) : Nat :=
  let c0_i32_136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_113 : BitVec 32 := 1#32
  let v165 : BitVec 32 := Scalar.subi v2 c1_i32_113
  let c8_i32_114 : BitVec 32 := 8#32
  let v166 : BitVec 32 := Scalar.addi v165 c8_i32_114
  let c8_i32_115 : BitVec 32 := 8#32
  let v167 : BitVec 32 := Scalar.remsi v166 c8_i32_115
  let c1_i32_135 : BitVec 32 := 1#32
  let v213 : BitVec 32 := Scalar.muli v167 c1_i32_135
  let v214 : BitVec 32 := Scalar.addi c0_i32_136 v213
  v214.toNat
def k0_dev16 (d0 : Dev nD) : Nat :=
  let c0_i32_164 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_141 : BitVec 32 := 2#32
  let v223 : BitVec 32 := Scalar.subi v2 c2_i32_141
  let c8_i32_142 : BitVec 32 := 8#32
  let v224 : BitVec 32 := Scalar.addi v223 c8_i32_142
  let c8_i32_143 : BitVec 32 := 8#32
  let v225 : BitVec 32 := Scalar.remsi v224 c8_i32_143
  let c1_i32_163 : BitVec 32 := 1#32
  let v271 : BitVec 32 := Scalar.muli v225 c1_i32_163
  let v272 : BitVec 32 := Scalar.addi c0_i32_164 v271
  v272.toNat
def k0_dev17 (d0 : Dev nD) : Nat :=
  let c0_i32_192 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_169 : BitVec 32 := 3#32
  let v281 : BitVec 32 := Scalar.subi v2 c3_i32_169
  let c8_i32_170 : BitVec 32 := 8#32
  let v282 : BitVec 32 := Scalar.addi v281 c8_i32_170
  let c8_i32_171 : BitVec 32 := 8#32
  let v283 : BitVec 32 := Scalar.remsi v282 c8_i32_171
  let c1_i32_191 : BitVec 32 := 1#32
  let v329 : BitVec 32 := Scalar.muli v283 c1_i32_191
  let v330 : BitVec 32 := Scalar.addi c0_i32_192 v329
  v330.toNat
def k0_dev18 (d0 : Dev nD) : Nat :=
  let c0_i32_220 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_197 : BitVec 32 := 4#32
  let v339 : BitVec 32 := Scalar.subi v2 c4_i32_197
  let c8_i32_198 : BitVec 32 := 8#32
  let v340 : BitVec 32 := Scalar.addi v339 c8_i32_198
  let c8_i32_199 : BitVec 32 := 8#32
  let v341 : BitVec 32 := Scalar.remsi v340 c8_i32_199
  let c1_i32_219 : BitVec 32 := 1#32
  let v387 : BitVec 32 := Scalar.muli v341 c1_i32_219
  let v388 : BitVec 32 := Scalar.addi c0_i32_220 v387
  v388.toNat
def k0_dev19 (d0 : Dev nD) : Nat :=
  let c0_i32_248 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_225 : BitVec 32 := 5#32
  let v397 : BitVec 32 := Scalar.subi v2 c5_i32_225
  let c8_i32_226 : BitVec 32 := 8#32
  let v398 : BitVec 32 := Scalar.addi v397 c8_i32_226
  let c8_i32_227 : BitVec 32 := 8#32
  let v399 : BitVec 32 := Scalar.remsi v398 c8_i32_227
  let c1_i32_247 : BitVec 32 := 1#32
  let v445 : BitVec 32 := Scalar.muli v399 c1_i32_247
  let v446 : BitVec 32 := Scalar.addi c0_i32_248 v445
  v446.toNat
def k0_dev20 (d0 : Dev nD) : Nat :=
  let c0_i32_276 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_253 : BitVec 32 := 6#32
  let v455 : BitVec 32 := Scalar.subi v2 c6_i32_253
  let c8_i32_254 : BitVec 32 := 8#32
  let v456 : BitVec 32 := Scalar.addi v455 c8_i32_254
  let c8_i32_255 : BitVec 32 := 8#32
  let v457 : BitVec 32 := Scalar.remsi v456 c8_i32_255
  let c1_i32_275 : BitVec 32 := 1#32
  let v503 : BitVec 32 := Scalar.muli v457 c1_i32_275
  let v504 : BitVec 32 := Scalar.addi c0_i32_276 v503
  v504.toNat
def k0_dev21 (d0 : Dev nD) : Nat :=
  let c0_i32_304 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_281 : BitVec 32 := 7#32
  let v513 : BitVec 32 := Scalar.subi v2 c7_i32_281
  let c8_i32_282 : BitVec 32 := 8#32
  let v514 : BitVec 32 := Scalar.addi v513 c8_i32_282
  let c8_i32_283 : BitVec 32 := 8#32
  let v515 : BitVec 32 := Scalar.remsi v514 c8_i32_283
  let c1_i32_303 : BitVec 32 := 1#32
  let v561 : BitVec 32 := Scalar.muli v515 c1_i32_303
  let v562 : BitVec 32 := Scalar.addi c0_i32_304 v561
  v562.toNat
def k0_off7 (d0 : Dev nD) (c1_i32_309 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v571 : BitVec 32 := Scalar.addi v2 c1_i32_309
  let c8_i32_310 : BitVec 32 := 8#32
  let v572 : BitVec 32 := Scalar.remsi v571 c8_i32_310
  ![v572.toNat]
def k0_off8 (d0 : Dev nD) (c1_i32_309 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v571 : BitVec 32 := Scalar.addi v2 c1_i32_309
  let c8_i32_310 : BitVec 32 := 8#32
  let v572 : BitVec 32 := Scalar.remsi v571 c8_i32_310
  let c0_i32_314 : BitVec 32 := 0#32
  let c0_i32_315 : BitVec 32 := 0#32
  ![v572.toNat, 0, 0]
def k0_off9 (d0 : Dev nD) (c1_i32_309 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v571 : BitVec 32 := Scalar.addi v2 c1_i32_309
  let c8_i32_310 : BitVec 32 := 8#32
  let v572 : BitVec 32 := Scalar.remsi v571 c8_i32_310
  let v581 : Index := Scalar.indexCast v572
  let c0_318 : Index := 0#32
  let c0_319 : Index := 0#32
  ![v581.toNat, 0, 0]
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S16x128x512 : Shape := ⟨3, ![16, 128, 512]⟩
abbrev S512x4096 : Shape := ⟨2, ![512, 4096]⟩
abbrev S4096x512 : Shape := ⟨2, ![4096, 512]⟩
abbrev S16x128x4096 : Shape := ⟨3, ![16, 128, 4096]⟩
abbrev S16x128x64x64 : Shape := ⟨4, ![16, 128, 64, 64]⟩
abbrev S16x64x128x128 : Shape := ⟨4, ![16, 64, 128, 128]⟩
abbrev S_ : Shape := ⟨0, ![]⟩
abbrev S16x64x128 : Shape := ⟨3, ![16, 64, 128]⟩
abbrev S16x64x128x1 : Shape := ⟨4, ![16, 64, 128, 1]⟩
abbrev S16x64x64x128 : Shape := ⟨4, ![16, 64, 64, 128]⟩
abbrev S16x128x64x1 : Shape := ⟨4, ![16, 128, 64, 1]⟩

abbrev nBuf : Space → Nat
  | .hbm => 36
  | .vmem => 0
  | .smem => 0
  | _ => 0

abbrev bufTy : (tb : Table) → Fin (tcTables nBuf tb) → BufTy
  | .hbm, ⟨0, _⟩ => ⟨S16x128x512, .bf16⟩
  | .hbm, ⟨1, _⟩ => ⟨S512x4096, .bf16⟩
  | .hbm, ⟨2, _⟩ => ⟨S4096x512, .bf16⟩
  | .hbm, ⟨3, _⟩ => ⟨S512x4096, .bf16⟩
  | .hbm, ⟨4, _⟩ => ⟨S512x4096, .bf16⟩
  | .hbm, ⟨5, _⟩ => ⟨S16x128x512, .f32⟩
  | .hbm, ⟨6, _⟩ => ⟨S512x4096, .f32⟩
  | .hbm, ⟨7, _⟩ => ⟨S4096x512, .f32⟩
  | .hbm, ⟨8, _⟩ => ⟨S512x4096, .f32⟩
  | .hbm, ⟨9, _⟩ => ⟨S512x4096, .f32⟩
  | .hbm, ⟨10, _⟩ => ⟨S16x128x4096, .f32⟩
  | .hbm, ⟨11, _⟩ => ⟨S16x128x64x64, .f32⟩
  | .hbm, ⟨12, _⟩ => ⟨S16x128x4096, .f32⟩
  | .hbm, ⟨13, _⟩ => ⟨S16x128x64x64, .f32⟩
  | .hbm, ⟨14, _⟩ => ⟨S16x128x4096, .f32⟩
  | .hbm, ⟨15, _⟩ => ⟨S16x128x64x64, .f32⟩
  | .hbm, ⟨16, _⟩ => ⟨S16x64x128x128, .f32⟩
  | .hbm, ⟨17, _⟩ => ⟨S_, .f32⟩
  | .hbm, ⟨18, _⟩ => ⟨S16x64x128x128, .f32⟩
  | .hbm, ⟨19, _⟩ => ⟨S16x64x128x128, .f32⟩
  | .hbm, ⟨20, _⟩ => ⟨S_, .f32⟩
  | .hbm, ⟨21, _⟩ => ⟨S16x64x128, .f32⟩
  | .hbm, ⟨22, _⟩ => ⟨S16x64x128x1, .f32⟩
  | .hbm, ⟨23, _⟩ => ⟨S16x64x128x128, .f32⟩
  | .hbm, ⟨24, _⟩ => ⟨S16x64x128x128, .f32⟩
  | .hbm, ⟨25, _⟩ => ⟨S16x64x128x128, .f32⟩
  | .hbm, ⟨26, _⟩ => ⟨S_, .f32⟩
  | .hbm, ⟨27, _⟩ => ⟨S16x64x128, .f32⟩
  | .hbm, ⟨28, _⟩ => ⟨S16x64x128x1, .f32⟩
  | .hbm, ⟨29, _⟩ => ⟨S16x64x64x128, .f32⟩
  | .hbm, ⟨30, _⟩ => ⟨S16x128x64x64, .f32⟩
  | .hbm, ⟨31, _⟩ => ⟨S16x128x64x1, .f32⟩
  | .hbm, ⟨32, _⟩ => ⟨S16x128x64x64, .f32⟩
  | .hbm, ⟨33, _⟩ => ⟨S16x128x64x64, .f32⟩
  | .hbm, ⟨34, _⟩ => ⟨S16x128x4096, .f32⟩
  | .hbm, ⟨35, _⟩ => ⟨S16x128x512, .f32⟩
  | _, _ => ⟨S16x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Proof.Cells.lean ====
/-
# The devices, semaphores and slots of the exchange

Eight devices; device `c` meets the others at the offsets `1 … 7`, an offset `k + 1` being named by `k : Fin 7`.
`fwd c k` is the device that far AFTER `c`, `bwd c k` the one that far BEFORE it.

Each device has three scratch buffers of eight slots of one block each: the gathered activations, the partial
results it computes for the other devices, and the partial results the other devices computed for it. A slot is
one leading index of such a buffer. This file says what it is to own a slot, how a whole buffer is its eight
slots, and how a slot's ownership is divided into eight equal leaves, so that seven copies may read it at once
while its owner keeps a leaf to read it by.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ShareLeaves
public import Idealize.ShloMosaic.Lib.Ring.FamCut
public import Idealize.ShloMosaic.Lib.ViewIndex
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's, whose duties are named by offsets -/

/-- A duty of a cell is named by an offset. -/
abbrev D : Type := Fin 7

abbrev UB : Type := URounds (GSem nD τ sig) D
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Neighbours -/

/-- The device `k + 1` places after `c`. -/
def fwd (c : Dev nD) (k : Fin 7) : Dev nD := ⟨(c.val + k.val + 1) % 8, Nat.mod_lt _ (by decide)⟩
/-- The device `k + 1` places before `c`. -/
def bwd (c : Dev nD) (k : Fin 7) : Dev nD := ⟨(c.val + 7 - k.val) % 8, Nat.mod_lt _ (by decide)⟩

theorem bwd_fwd : ∀ (c : Dev nD) (k : Fin 7), bwd (fwd c k) k = c := by decide
theorem fwd_bwd : ∀ (c : Dev nD) (k : Fin 7), fwd (bwd c k) k = c := by decide
theorem bwd_rev : ∀ (c : Dev nD) (k : Fin 7), bwd c k.rev = fwd c k := by decide
theorem fwd_rev : ∀ (c : Dev nD) (k : Fin 7), fwd c k.rev = bwd c k := by decide
theorem fwd_ne : ∀ (c : Dev nD) (k : Fin 7), fwd c k ≠ c := by decide
theorem bwd_ne : ∀ (c : Dev nD) (k : Fin 7), bwd c k ≠ c := by decide

/-- Every device, moved by one offset. -/
def shift (k : Fin 7) : Dev nD ≃ Dev nD := ⟨fun c => fwd c k, fun c => bwd c k, fun c => bwd_fwd c k, fun c => fwd_bwd c k⟩

/-- The devices are oneself and those at the seven offsets before. -/
theorem bwd_inj : ∀ (c : Dev nD) (k k' : Fin 7), bwd c k = bwd c k' → k = k' := by decide
theorem fwd_inj : ∀ (c : Dev nD) (k k' : Fin 7), fwd c k = fwd c k' → k = k' := by decide
def bwdEmb (c : Dev nD) : Fin 7 ↪ Dev nD := ⟨bwd c, fun k k' => bwd_inj c k k'⟩
def fwdEmb (c : Dev nD) : Fin 7 ↪ Dev nD := ⟨fwd c, fun k k' => fwd_inj c k k'⟩
theorem univ_bwd : ∀ c : Dev nD, (Finset.univ : Finset (Dev nD)) = insert c (Finset.univ.map (bwdEmb c)) := by decide
theorem univ_fwd : ∀ c : Dev nD, (Finset.univ : Finset (Dev nD)) = insert c (Finset.univ.map (fwdEmb c)) := by decide

section sum
variable {P : Dev nD → sProp (MT nD τ sig Unit (Elt F) ℕ UU ℕ)}

/-- What every device has is what one has and what those before it have. -/
theorem bigSep_bwd (c : Dev nD) : bigSep Finset.univ P = iprop(P c ∗ bigSep Finset.univ fun k => P (bwd c k)) := by
  rw [univ_bwd c, bigSep_insert (by revert c; decide), bigSep_map]; rfl
theorem bigSep_fwd (c : Dev nD) : bigSep Finset.univ P = iprop(P c ∗ bigSep Finset.univ fun k => P (fwd c k)) := by
  rw [univ_fwd c, bigSep_insert (by revert c; decide), bigSep_map]; rfl
end sum

/-! ## Semaphores -/

/-- The semaphore of entry `i` of the array `f`: the arrays are those of the activations' sends, of their arrivals,
    of the partials' sends and of their arrivals. -/
def dsem (f : Fin 4) (i : Fin 8) : DmaSem sig := ⟨6 + 8 * f.val + i.val, by show _ < 38; omega⟩
/-- Its array, read off a semaphore. -/
def famOf (s : DmaSem sig) : Fin 4 := ⟨(s.val - 6) / 8 % 4, Nat.mod_lt _ (by decide)⟩
/-- Its entry. -/
def idxOf (s : DmaSem sig) : Fin 8 := ⟨(s.val - 6) % 8, Nat.mod_lt _ (by decide)⟩

@[simp] theorem famOf_dsem : ∀ f i, famOf (dsem f i) = f := by decide
@[simp] theorem idxOf_dsem : ∀ f i, idxOf (dsem f i) = i := by decide

/-- The barrier's semaphore. -/
abbrev barS : Sem sig := (SemArray.scalar (sig.barrier 0 rfl) : Sems sig S_).sem

/-- Device `c`'s barrier cell. -/
abbrev bar (c : Dev nD) : GSem nD τ sig := ((c : Thread nD τ), .reg barS)
/-- Device `c`'s cell of entry `i` of array `f`. -/
abbrev cell (f : Fin 4) (c : Dev nD) (i : Fin 8) : GSem nD τ sig := ((c : Thread nD τ), .dma (dsem f i))

/-! ## Slots -/

theorem slab_inb : ∀ (i : Fin 8) (a : Fin S8x256x512.rank), (![i.val, 0, 0] : Fin 3 → ℕ) a + S1x256x512.size a ≤ S8x256x512.size a := by
  decide

/-- One leading index of an eight-block buffer. -/
abbrev slab (i : Fin 8) : Rect S8x256x512 := Rect.unit ![i.val, 0, 0] S1x256x512.size (slab_inb i)

/-- A slot of a buffer. -/
abbrev slot (M : Memref sig .tc .vmem S8x256x512 .bf16) (i : Fin 8) : Memref sig .tc .vmem S1x256x512 .bf16 :=
  M.slice (slab i) (fun _ => rfl)
/-- A slot as a copy names it, as one block. -/
abbrev slotq (M : Memref sig .tc .vmem S8x256x512 .bf16) (i : Fin 8) : Memref sig .tc .vmem S256x512 .bf16 :=
  (slot M i).squeeze S256x512 squeezes_S1x256x512_S256x512

/-- The gathered activations. -/
abbrev xgM : Memref sig .tc .vmem S8x256x512 .bf16 := Memref.whole cc0_scratch0
/-- The partials computed for other devices. -/
abbrev asM : Memref sig .tc .vmem S8x256x512 .bf16 := Memref.whole cc0_scratch1
/-- The partials other devices computed for this one. -/
abbrev arM : Memref sig .tc .vmem S8x256x512 .bf16 := Memref.whole cc0_scratch2

/-- The bytes one copy of a slot moves, as its semaphores count them. -/
abbrev N : ℕ := (slotq xgM 0).view.dmaCredit

theorem N_pos : 0 < N := View.dmaCredit_pos _ (by decide)

/-- A block as a slot holds it. -/
abbrev Blk (F : FTy → Type) : Type := S1x256x512.Idx → Elt F .bf16

/-- Device `c` owns slot `i` of `M` at share `q`, holding `X`. -/
abbrev hold (c : Dev nD) (M : Memref sig .tc .vmem S8x256x512 .bf16) (i : Fin 8) (q : PosShare TreeShare) (X : Blk F) : sProp 𝕄 :=
  owns (c : Thread nD τ) (slot M i) q X
/-- Device `c` owns slot `i` of `M`, whatever it holds. -/
abbrev room (c : Dev nD) (M : Memref sig .tc .vmem S8x256x512 .bf16) (i : Fin 8) : sProp 𝕄 :=
  iprop(∃ X : Blk F, hold c M i fullShare X)

theorem hold_room (c : Dev nD) (M : Memref sig .tc .vmem S8x256x512 .bf16) (i : Fin 8) (X : Blk F) :
    hold c M i fullShare X ⊢ room (F := F) c M i := by
  iintro H; iexists X; iexact H

/-! ### The leaves of a slot -/

/-- Owning a memref's elements is a points-to of any contents rewritten there. -/
theorem owns_eq_write {c : Thread nD τ} {sp : Space} {s : Shape} {e : EltTy} (m : Memref sig c.2.kind sp s e) (q : PosShare TreeShare)
    (X : s.Idx → Elt F e) (f₀ : Buf (Elt F) (m.view.loc c)) :
    (owns c m q X : sProp 𝕄) = (m.view.loc c ↦[m.view.set]{q} m.view.write (Elt F) f₀ X Finset.univ) := by
  have h₁ : (owns c m q X : sProp 𝕄) ⊢ (m.view.loc c ↦[m.view.set]{q} m.view.write (Elt F) f₀ X Finset.univ) := by
    unfold owns
    iintro ⟨%f, %hf, H⟩
    subst hf
    have he : ∀ i ∈ m.view.set, m.view.write (Elt F) f₀ (m.view.read (Elt F) f) Finset.univ i = f i := by
      intro i hi
      obtain ⟨x, -, rfl⟩ := Finset.mem_map.mp hi
      refine View.eq_of_read_eq ?_
      rw [View.read_write_univ]
    iapply (BIBase.Entails.of_eq (pointsTo_congr (ℓ := m.view.loc c) (q := q) he).symm)
    iexact H
  refine BI.Entails.antisymm h₁ ((owns_intro c m q _).trans ?_)
  rw [View.read_write_univ]

/-- The share of the `k`-th of eight leaves. -/
abbrev lf (k : Fin 8) : PosShare TreeShare := ShareLeaves.leaf 3 fullShare k

/-- A slot owned whole is its eight leaves. -/
theorem hold_leaves (c : Dev nD) (M : Memref sig .tc .vmem S8x256x512 .bf16) (i : Fin 8) (X : Blk F) :
    (hold c M i fullShare X : sProp 𝕄) = bigSep Finset.univ fun k : Fin 8 => hold c M i (lf k) X := by
  have f₀ : Buf (Elt F) ((slot M i).view.loc (c : Thread nD τ)) := fun _ => Classical.arbitrary _
  unfold hold
  rw [owns_eq_write _ _ X f₀, ShareLeaves.pointsTo_leaves _ _ 3]
  exact bigSep_congr fun k _ => (owns_eq_write _ _ X f₀).symm

/-- Eight things are the first and the seven others. -/
theorem bigSep_succ (P : Fin 8 → sProp 𝕄) : bigSep Finset.univ P = iprop(P 0 ∗ bigSep Finset.univ fun k : Fin 7 => P k.succ) := by
  rw [Fin.univ_succ, Finset.cons_eq_insert, bigSep_insert (by simp), bigSep_map]
  rfl

/-! ### The slots of a buffer -/

theorem slot_disjoint (M : Memref sig .tc .vmem S8x256x512 .bf16) (i j : Fin 8) (h : i ≠ j) :
    Disjoint (slot M i).view.set (slot M j).view.set := by
  refine View.disjoint_slice_of_sep _ _ _ (0 : Fin 3) rfl rfl ?_
  have : i.val ≠ j.val := fun h' => h (Fin.ext h')
  show i.val + 1 ≤ j.val ∨ j.val + 1 ≤ i.val
  omega

/-- What the slots of a buffer leave of it. -/
abbrev spare (c : Dev nD) (M : Memref sig .tc .vmem S8x256x512 .bf16) : sProp 𝕄 :=
  iprop(∃ f, M.view.loc (c : Thread nD τ) ↦[Ring.restOf fun i => (slot M i).view.set]{fullShare} f)

theorem room_eq (c : Dev nD) (M : Memref sig .tc .vmem S8x256x512 .bf16) (i : Fin 8) :
    (room c M i : sProp 𝕄) = iprop(∃ f, M.view.loc (c : Thread nD τ) ↦[(slot M i).view.set]{fullShare} f) := by
  have h₁ : room (F := F) c M i ⊢ iprop(∃ f, M.view.loc (c : Thread nD τ) ↦[(slot M i).view.set]{fullShare} f) := by
    iintro ⟨%X, H⟩
    ihave H' := (show hold c M i fullShare X
        ⊢ iprop(∃ f, ⌜(slot M i).view.read (Elt F) f = X⌝ ∗ M.view.loc (c : Thread nD τ) ↦[(slot M i).view.set]{fullShare} f) from .rfl) $$ H
    icases H' with ⟨%f, -, H⟩
    iexists f; iexact H
  have h₂ : iprop(∃ f, M.view.loc (c : Thread nD τ) ↦[(slot M i).view.set]{fullShare} f) ⊢ room (F := F) c M i := by
    iintro ⟨%f, H⟩
    iexists (slot M i).view.read (Elt F) f
    iapply (owns_intro (c : Thread nD τ) (slot M i) fullShare f); iexact H
  exact BI.Entails.antisymm h₁ h₂

/-- A whole buffer is its slots and what they leave. -/
theorem rooms_split (c : Dev nD) (M : Memref sig .tc .vmem S8x256x512 .bf16) :
    (iprop(∃ f, M.view.loc (c : Thread nD τ) ↦{fullShare} f) : sProp 𝕄) ⊢ iprop((bigSep Finset.univ fun i => room c M i) ∗ spare c M) := by
  simp only [room_eq]
  exact Ring.fam_split_ex (ℓ := M.view.loc (c : Thread nD τ)) (fun i => (slot M i).view.set) (slot_disjoint M)

theorem rooms_join (c : Dev nD) (M : Memref sig .tc .vmem S8x256x512 .bf16) :
    iprop((bigSep Finset.univ fun i => room c M i) ∗ spare c M) ⊢ (iprop(∃ f, M.view.loc (c : Thread nD τ) ↦{fullShare} f) : sProp 𝕄) := by
  simp only [room_eq]
  exact Ring.fam_join (ℓ := M.view.loc (c : Thread nD τ)) (fun i => (slot M i).view.set) (slot_disjoint M) (fun _ => Classical.arbitrary _)

end Cert.Exchange
-- ==== Proof.Schedule.lean ====
/-
# The protocol

Each device's program, as its neighbours see it:

* it signals the barrier cell of the seven others, and waits for seven signals on its own. The signal to device `p`
  hands `p` the two slots of the signaller that `p` will write: slot `p` of its gathered activations and slot `p` of
  its received partials;
* it copies its activations, from slot `c` of its own buffer, into slot `c` of every other's. The arrival hands the
  receiver that slot holding the sender's activations; the end of the send hands the sender its leaf of the source back;
* for each other device's activations, as they arrive, it computes its partial of that device's result, in a slot of
  its own buffer, and copies it into slot `c` of that device's received partials. The arrival hands that device the slot
  holding the partial; the end of the send hands the slot of the source back;
* it adds its own partial and the seven it received.

Every cell has one round. A barrier cell has seven duties, one for each offset, a cell of the copies one duty; the cells
of the four arrays that the program never uses have none.

The levels order the waits: barrier, then activations, then partials; a device waits for a cell only while what it still
owes lies above it.
-/
module

public import proofs.«01_k».proof.Proof.Cells

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What the devices hold and exchange -/

/-- The activations of device `c`, as staged. -/
def xv (c : Dev nD) : (cc0_stg0_0 : Ref sig .tc).ty.Contents (Elt F) := (win0_0.blk (0 : Fin 1)).view.read (Elt F) (m ((c : Thread nD τ).loc main_arg0))
/-- The query weights of device `c`'s heads. -/
def qv (c : Dev nD) : (cc0_stg1_0 : Ref sig .tc).ty.Contents (Elt F) := (win0_1.blk (0 : Fin 1)).view.read (Elt F) (m ((c : Thread nD τ).loc main_arg1))
/-- The output weights. -/
def ov (c : Dev nD) : (cc0_stg2_0 : Ref sig .tc).ty.Contents (Elt F) := (win0_2.blk (0 : Fin 1)).view.read (Elt F) (m ((c : Thread nD τ).loc main_arg2))
/-- The key weights. -/
def kv (c : Dev nD) : (cc0_stg3_0 : Ref sig .tc).ty.Contents (Elt F) := (win0_3.blk (0 : Fin 1)).view.read (Elt F) (m ((c : Thread nD τ).loc main_arg3))
/-- The value weights. -/
def vv (c : Dev nD) : (cc0_stg4_0 : Ref sig .tc).ty.Contents (Elt F) := (win0_4.blk (0 : Fin 1)).view.read (Elt F) (m ((c : Thread nD τ).loc main_arg4))

/-- The activations of device `c`, as its slot holds them. -/
def xb (c : Dev nD) : Blk F := k0_pay1 (xv m c)

/-- What device `j` computes for the activations `X`: the partial of the heads it has. -/
def part (j : Dev nD) (X : Blk F) : Blk F :=
  k0_pay17 (k0_pay2 (qv m j)) (k0_pay3 (kv m j)) (k0_pay4 (vv m j)) (k0_pay5 (ov m j)) X

/-! ## The schedule -/

/-- The offset whose entry of a send array is `i`. -/
def offOf (i : Fin 8) : Fin 7 := ⟨(i.val - 1) % 7, Nat.mod_lt _ (by decide)⟩
@[simp] theorem offOf_succ : ∀ k : Fin 7, offOf k.succ = k := by decide

/-- What the signal of the device `d + 1` before `c` hands `c`. -/
def barPay (c : Dev nD) (d : D) : sProp 𝕄 := iprop(room (bwd c d) xgM c ∗ room (bwd c d) arM c)

/-- What entry `i` of array `f` of device `c` hands it. -/
def cellPay (f : Fin 4) (c : Dev nD) (i : Fin 8) : sProp 𝕄 :=
  if f = 0 then hold c xgM c (lf i) (xb m c)
  else if f = 1 then hold c xgM i fullShare (xb m i)
  else if f = 2 then room c asM (bwd c (offOf i))
  else hold c arM i fullShare (part m i (xb m c))

/-- The entry of array `f` of device `c` that the program does not use. -/
def idle (f : Fin 4) (c : Dev nD) : Fin 8 := if f = 0 ∨ f = 2 then 0 else c

/-- The duties of entry `i` of array `f` of device `c`. -/
def cellDuties (f : Fin 4) (c : Dev nD) (i : Fin 8) : Finset D := if i = idle f c then ∅ else {0}

/-- The duties of round `0`. -/
def dutiesOf (g : GSem nD τ sig) : Finset D :=
  match g.2 with
  | .reg s => Finset.univ
  | .dma s => cellDuties (famOf s) g.1.1 (idxOf s)

def amountOf (sm : SemLoc sig) : ℕ := match sm with | .reg _ => 1 | .dma _ => N

/-- What a duty of a cell hands its owner. -/
def payOf (g : GSem nD τ sig) (d : D) : sProp 𝕄 :=
  match g.2 with
  | .reg _ => barPay g.1.1 d
  | .dma s => cellPay m (famOf s) g.1.1 (idxOf s)

set_option backward.proofsInPublic true in
/-- The protocol. -/
def Rd : Schedule (GSem nD τ sig) D 𝕄 where
  duties g r := if r = 0 then dutiesOf g else ∅
  amount g _ _ := amountOf g.2
  payload g _ d := payOf m g d
  amount_pos g r d _ := by
    show 0 < amountOf g.2
    unfold amountOf
    split
    · exact Nat.one_pos
    · exact N_pos

instance barPay_storable (c : Dev nD) (d : D) : BI.Storable (upEmb : UEmb _ 𝕄) (barPay (F := F) c d) := by
  unfold barPay; infer_instance

instance cellPay_storable (f : Fin 4) (c : Dev nD) (i : Fin 8) : BI.Storable (upEmb : UEmb _ 𝕄) (cellPay (F := F) m f c i) := by
  unfold cellPay; (repeat' split) <;> infer_instance

instance payload_storable (g : GSem nD τ sig) (r : ℕ) (d : D) : BI.Storable (upEmb : UEmb _ 𝕄) ((Rd (F := F) m).payload g r d) := by
  show BI.Storable upEmb (payOf m g d)
  unfold payOf
  split <;> infer_instance

variable (c : Dev nD)

/-! ### Its tables -/

theorem duties_later (g : GSem nD τ sig) (r : ℕ) (hr : 1 ≤ r) : (Rd (F := F) m).duties g r = ∅ := if_neg (by omega)
theorem duties_bar : (Rd (F := F) m).duties (bar c) 0 = Finset.univ := rfl
theorem duties_cell (f : Fin 4) (i : Fin 8) : (Rd (F := F) m).duties (cell f c i) 0 = if i = idle f c then ∅ else {0} := by
  show cellDuties (famOf (dsem f i)) c (idxOf (dsem f i)) = _
  rw [famOf_dsem, idxOf_dsem]; rfl
theorem amount_bar (r : ℕ) (d : D) : (Rd (F := F) m).amount (bar c) r d = 1 := rfl
theorem amount_cell (f : Fin 4) (i : Fin 8) (r : ℕ) (d : D) : (Rd (F := F) m).amount (cell f c i) r d = N := rfl
theorem payload_bar (r : ℕ) (d : D) : (Rd (F := F) m).payload (bar c) r d = barPay c d := rfl
theorem payload_cell (f : Fin 4) (i : Fin 8) (r : ℕ) (d : D) : (Rd (F := F) m).payload (cell f c i) r d = cellPay m f c i := by
  show cellPay m (famOf (dsem f i)) c (idxOf (dsem f i)) = _
  rw [famOf_dsem, idxOf_dsem]

theorem mem_duties_cell {f : Fin 4} {i : Fin 8} (h : i ≠ idle f c) : (0 : D) ∈ (Rd (F := F) m).duties (cell f c i) 0 := by
  rw [duties_cell, if_neg h]; exact Finset.mem_singleton_self _
theorem expect_bar : (Rd (F := F) m).expect (bar c) 0 = 7 := by
  unfold Schedule.expect Schedule.amountOf
  rw [duties_bar, Finset.sum_congr rfl fun d _ => amount_bar m c 0 d]; rfl
theorem expect_cell {f : Fin 4} {i : Fin 8} (h : i ≠ idle f c) : (Rd (F := F) m).expect (cell f c i) 0 = N := by
  unfold Schedule.expect Schedule.amountOf
  rw [duties_cell, if_neg h, Finset.sum_singleton, amount_cell]
theorem rest_bar : bigSep ((Rd (F := F) m).duties (bar c) 0 \ ∅) (fun d => (Rd (F := F) m).payload (bar c) 0 d) = bigSep Finset.univ (barPay c) := by
  rw [Finset.sdiff_empty, duties_bar]; rfl
theorem rest_cell {f : Fin 4} {i : Fin 8} (h : i ≠ idle f c) :
    bigSep ((Rd (F := F) m).duties (cell f c i) 0 \ ∅) (fun d => (Rd (F := F) m).payload (cell f c i) 0 d) = cellPay m f c i := by
  rw [Finset.sdiff_empty, duties_cell, if_neg h, bigSep_singleton, payload_cell]

theorem cellPay_0 (i : Fin 8) : cellPay (F := F) m 0 c i = hold c xgM c (lf i) (xb m c) := rfl
theorem cellPay_1 (i : Fin 8) : cellPay (F := F) m 1 c i = hold c xgM i fullShare (xb m i) := rfl
theorem cellPay_2 (i : Fin 8) : cellPay (F := F) m 2 c i = room c asM (bwd c (offOf i)) := rfl
theorem cellPay_3 (i : Fin 8) : cellPay (F := F) m 3 c i = hold c arM i fullShare (part m i (xb m c)) := rfl

theorem used_0 : ∀ (c : Dev nD) (k : Fin 7), k.succ ≠ idle 0 c := by decide
theorem used_1 : ∀ (c : Dev nD) (k : Fin 7), bwd c k ≠ idle 1 c := by decide
theorem used_1' : ∀ (c : Dev nD) (k : Fin 7), c ≠ idle 1 (fwd c k) := by decide
theorem used_2 : ∀ (c : Dev nD) (k : Fin 7), k.succ ≠ idle 2 c := by decide
theorem used_3 : ∀ (c : Dev nD) (k : Fin 7), fwd c k ≠ idle 3 c := by decide
theorem used_3' : ∀ (c : Dev nD) (k : Fin 7), c ≠ idle 3 (bwd c k) := by decide

/-! ## What a device owes at launch -/

/-- Its signal at the offset `k`. -/
def oweB (k : Fin 7) : CellTallies nD τ sig Unit := tallyAt (bar (fwd c k)) () 1
/-- Its copy of the activations. -/
def oweX (k : Fin 7) : CellTallies nD τ sig Unit := tallyAt (cell 1 (fwd c k) c) () N
/-- Its copy of a partial. -/
def oweA (k : Fin 7) : CellTallies nD τ sig Unit := tallyAt (cell 3 (bwd c k) c) () N

/-- What is owed, in the order it is paid: the sends of partials at the offsets in `A`, those of the activations at the
    offsets in `X`, the signals at the offsets in `B`. -/
def owing (A X B : Finset (Fin 7)) : CellTallies nD τ sig Unit := ∑ k ∈ A, oweA c k + ∑ k ∈ X, oweX c k + ∑ k ∈ B, oweB c k

def O₀ : CellTallies nD τ sig Unit := owing c Finset.univ Finset.univ Finset.univ

/-! ## Levels -/

def L (g : GSem nD τ sig) : Finset Unit := if g.1.2 = .tc then {()} else ∅

/-- Barriers at `1`, arrivals of activations at `2`, arrivals of partials at `3`, everything else at `0`. -/
def level (sm : SemLoc sig) : ℕ :=
  match sm with
  | .reg _ => 1
  | .dma s => if s.val < 6 then 0 else if famOf s = 1 then 2 else if famOf s = 3 then 3 else 0
def lv (g : GSem nD τ sig) (_ : Unit) : ℕ := level g.2

theorem L_of_ne (g : GSem nD τ sig) (h : g.1.2 ≠ .tc) : L g = ∅ := if_neg h
theorem L_tc (c : Dev nD) (sm : SemLoc sig) : L ((c : Thread nD τ), sm) = {()} := if_pos rfl
theorem level_bar (sm : Sem sig) : level (.reg sm : SemLoc sig) = 1 := rfl
theorem level_dsem : ∀ (f : Fin 4) (i : Fin 8), level (.dma (dsem f i) : SemLoc sig) = if f = 1 then 2 else if f = 3 then 3 else 0 := by decide

theorem sum_apply {ι : Type} (S : Finset ι) (t : ι → CellTallies nD τ sig Unit) (g : GSem nD τ sig) (u : Unit) :
    (∑ k ∈ S, t k) g u = ∑ k ∈ S, t k g u := by
  rw [Finset.sum_apply, Finsupp.finset_sum_apply]

/-- What is owed is one of the three kinds. -/
theorem owing_pos {A X B : Finset (Fin 7)} {g : GSem nD τ sig} {u : Unit} (h : 0 < owing c A X B g u) :
    (∃ k ∈ A, g = cell 3 (bwd c k) c) ∨ (∃ k ∈ X, g = cell 1 (fwd c k) c) ∨ ∃ k ∈ B, g = bar (fwd c k) := by
  have one {S : Finset (Fin 7)} {gs : Fin 7 → GSem nD τ sig} {n : ℕ} (h : 0 < (∑ k ∈ S, tallyAt (gs k) () n : CellTallies nD τ sig Unit) g u) :
      ∃ k ∈ S, g = gs k := by
    rw [sum_apply] at h
    obtain ⟨k, hk, h⟩ := Finset.exists_ne_zero_of_sum_ne_zero h.ne'
    refine ⟨k, hk, ?_⟩
    rw [tallyAt_apply] at h
    by_contra hn
    exact h (if_neg fun h' => hn h'.1)
  unfold owing at h
  rw [Pi.add_apply, Finsupp.add_apply, Pi.add_apply, Finsupp.add_apply] at h
  rcases Nat.lt_or_ge 0 ((∑ k ∈ A, oweA c k) g u) with h1 | h1
  · exact .inl (one h1)
  rcases Nat.lt_or_ge 0 ((∑ k ∈ X, oweX c k) g u) with h2 | h2
  · exact .inr (.inl (one h2))
  · rw [Nat.le_zero.mp h1, Nat.le_zero.mp h2, Nat.zero_add] at h
    exact .inr (.inr (one h))

/-- A device may wait for a cell below everything it owes. -/
theorem mayWait (sm : SemLoc sig) (A X B : Finset (Fin 7)) (hA : A = ∅ ∨ level sm < 3) (hX : X = ∅ ∨ level sm < 2) (hB : B = ∅ ∨ level sm < 1) :
    (levAts L lv : sProp 𝕄) ⊢ MayWait (c : Thread nD τ) sm () (owing c A X B) := by
  refine MayOwe.of_cut (L := L) (lev := lv) (level sm) (fun p hp => by rw [Finset.mem_singleton.mp hp, L_tc]; exact Finset.mem_singleton_self _)
    (fun g u hg => by rcases owing_pos c hg with ⟨k, -, rfl⟩ | ⟨k, -, rfl⟩ | ⟨k, -, rfl⟩ <;> exact Finset.mem_singleton_self _)
    (fun p hp => by rw [Finset.mem_singleton.mp hp]; exact le_refl _)
    (fun g u hg => ?_)
  rcases owing_pos c hg with ⟨k, hk, rfl⟩ | ⟨k, hk, rfl⟩ | ⟨k, hk, rfl⟩
  · rcases hA with rfl | h
    · simp at hk
    · show level sm < level _
      rw [level_dsem]; exact h
  · rcases hX with rfl | h
    · simp at hk
    · show level sm < level _
      rw [level_dsem]; exact h
  · rcases hB with rfl | h
    · simp at hk
    · exact h

end Cert.Exchange
-- ==== Proof.Steps.lean ====
/-
# One operation at a time

What each operation of the program does under the protocol, at any device: a signal, a wait, a copy into another
device's slot, a load and a store of a slot. Each is stated for the offsets, semaphores and device the program prints,
given what these are. The program repeats each at seven offsets; `phase` is the state between two of them.
-/
module

public import proofs.«01_k».proof.Proof.Schedule

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## What every device may use at any time -/

/-- A device's cells: its barrier cell and the entries of its four arrays. -/
abbrev Cell : Type := Option (Fin 4 × Fin 8)
abbrev kcell (ck : Dev nD × Cell) : GSem nD τ sig := match ck.2 with
  | none => bar ck.1
  | some fi => cell fi.1 ck.1 fi.2

variable (K : Dev nD × Cell → ℕ)

/-- The invariants of all cells, that each is at its round, and the levels. -/
def env : sProp 𝕄 :=
  iprop((bigSep Finset.univ fun ck : Dev nD × Cell => cellInv ER (Rd m) (K ck) (kcell ck))
    ∗ (bigSep Finset.univ fun ck : Dev nD × Cell => reached ER (kcell ck) 0) ∗ levAts L lv)

instance env_persistent : BI.Persistent (env m K) := by unfold env; infer_instance

theorem env_inv (ck : Dev nD × Cell) : env m K ⊢ cellInv ER (Rd m) (K ck) (kcell ck) := by
  unfold env
  iintro ⟨#H, -, -⟩
  iapply (show (bigSep Finset.univ fun ck : Dev nD × Cell => cellInv ER (Rd m) (K ck) (kcell ck)) ⊢ cellInv ER (Rd m) (K ck) (kcell ck)
    from bigSep_elim (Finset.mem_univ ck))
  iexact H
theorem env_reached (ck : Dev nD × Cell) : env m K ⊢ reached ER (kcell ck) 0 := by
  unfold env
  iintro ⟨-, #H, -⟩
  iapply (show (bigSep Finset.univ fun ck : Dev nD × Cell => (reached ER (kcell ck) 0 : sProp 𝕄)) ⊢ reached ER (kcell ck) 0
    from bigSep_elim (Finset.mem_univ ck))
  iexact H
theorem env_lev : env m K ⊢ levAts L lv := by
  unfold env
  iintro ⟨-, -, H⟩; iexact H

/-- Device `c` owes `O`. -/
def owesW (c : Dev nD) (O : CellTallies nD τ sig Unit) : sProp 𝕄 := iprop(∃ W, owes (c : Thread nD τ) O W)

/-! ## The operations -/

section Ops

variable (c : Dev nD) {α : Type} {Q : α → sProp (MT nD τ sig Unit (Elt F) ℕ UU ℕ)}

/-- A signal to the device `k + 1` after. -/
theorem signal_step {kt : PUnit → Prog (TpuEff nD τ sig (Elt F) Λ₀ .tc) α} (k : Fin 7) (n : Dev nD) (hn : n = fwd c k) {w : ℕ} (hw : w = 1)
    {O₀ O : CellTallies nD τ sig Unit} (hO : O₀ = O + oweB c k) :
    iprop(env m K ∗ (dutyTok ER (bar (fwd c k)) 0 k ∗ room c xgM (fwd c k) ∗ room c arM (fwd c k)) ∗ owesW c O₀)
      ⊢ iprop((emp ∗ owesW c O -∗ wp frame (wpE (defs₀ (F := F)) 𝒱₀ (c : Thread nD τ) none) Set.univ (kt ⟨⟩) Q)
          -∗ wp frame (wpE (defs₀ (F := F)) 𝒱₀ (c : Thread nD τ) none) Set.univ (.op (.semSignal (n : Thread nD τ) barS w) kt) Q) := by
  subst hn hw
  unfold owesW
  iintro ⟨#He, ⟨Ht, Hx, Ha⟩, ⟨%W, Ho⟩⟩ Hk
  iapply (Rounds.wp_signal 𝒱₀ ER (Rd m) (c : Thread nD τ) none (dst := (fwd c k : Thread nD τ)) (κ := K (fwd c k, none)) (r := 0)
      (d := k) (by rw [duties_bar]; exact Finset.mem_univ _) (amount_bar m (fwd c k) 0 k) () O hO) $$ [Ho Ht Hx Ha]
  · isplitr; · iapply (env_inv m K (fwd c k, none)); iexact He
    isplitl [Ho]; · iexact Ho
    isplitl [Ht]; · iexact Ht
    isplitl [Hx Ha]
    · rw [payload_bar]; unfold barPay; rw [bwd_fwd]
      isplitl [Hx] <;> iassumption
    iapply (env_reached m K (fwd c k, none)); iexact He
  iintro Ho
  iapply Hk
  isplitr; · iempintro
  iexists W; iexact Ho

/-- The wait for the seven signals. -/
theorem barrier_step {kt : PUnit → Prog (TpuEff nD τ sig (Elt F) Λ₀ .tc) α} {w : ℕ} (hw : w = 7) (A X : Finset (Fin 7)) :
    iprop(env m K ∗ (cred (tallyAt (bar c) () 7) ∗ atPos ER (bar c) 0 ∅ 0) ∗ owesW c (owing c A X ∅))
      ⊢ iprop(((atPos ER (bar c) 1 ∅ 0 ∗ bigSep Finset.univ (barPay c)) ∗ owesW c (owing c A X ∅)
            -∗ wp frame (wpE (defs₀ (F := F)) 𝒱₀ (c : Thread nD τ) none) Set.univ (kt ⟨⟩) Q)
          -∗ wp frame (wpE (defs₀ (F := F)) 𝒱₀ (c : Thread nD τ) none) Set.univ (.op (.semWait barS w) kt) Q) := by
  subst hw
  unfold owesW
  iintro ⟨#He, ⟨Hc, Hat⟩, ⟨%W, Ho⟩⟩ Hk
  iapply (Rounds.wp_wait_rest_token 𝒱₀ ER (Rd m) (c : Thread nD τ) none (κ := K (c, none))
      (wpE_semWait_eq 𝒱₀ (c : Thread nD τ) none Set.univ) (Set.mem_univ _) () (O := owing c A X ∅) (W := W) (R := 0) (m := 0) (T := ∅)
      (by rw [expect_bar])) $$ [Hc Ho Hat]
  · isplitr; · iapply (env_inv m K (c, none)); iexact He
    isplitl [Hc]; · iexact Hc
    isplitl [Ho]; · iexact Ho
    isplitr
    · iapply (mayWait c (.reg barS) A X ∅ (.inr (by decide)) (.inr (by decide)) (.inl rfl)); iapply (env_lev m K); iexact He
    iexact Hat
  iintro ⟨Ho, Hat, -, Hp⟩
  ihave Hp := (BIBase.Entails.of_eq (rest_bar m c)) $$ Hp
  iapply Hk
  isplitl [Hat Hp]
  · isplitl [Hat] <;> iassumption
  iexists _; iexact Ho

/-- A wait for a copy to end, at either end of it. -/
theorem wait_step {kt : PUnit → Prog (TpuEff nD τ sig (Elt F) Λ₀ .tc) α} (f : Fin 4) (i : Fin 8) (hu : i ≠ idle f c)
    (A : Finset (Fin 7)) (hA : A = ∅ ∨ f = 1)
    {s : DmaSem sig} (hs : s = dsem f i) {sp sp' : Space} {sh sh' : Shape} {e e' : EltTy} {κ' : Kind}
    {src : Memref sig (c : Thread nD τ).2.kind sp' sh' e'} {dst : Memref sig κ' sp sh e} {hsrc : src.view.WordExact} {hdst : dst.view.WordExact}
    (hN : dst.view.dmaCredit = N) :
    iprop(env m K ∗ (cred (tallyAt (cell f c i) () N) ∗ atPos ER (cell f c i) 0 ∅ 0) ∗ owesW c (owing c A ∅ ∅))
      ⊢ iprop(((atPos ER (cell f c i) 1 ∅ 0 ∗ cellPay m f c i) ∗ owesW c (owing c A ∅ ∅)
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 s src dst hsrc hdst) kt) Q) := by
  subst hs
  unfold owesW
  iintro ⟨#He, ⟨Hc, Hat⟩, ⟨%W, Ho⟩⟩ Hk
  iapply (Rounds.wp_wait_rest_token 𝒱₀ ER (Rd m) (c : Thread nD τ) none (κ := K (c, some (f, i)))
      (wpE_waitDma2_eq 𝒱₀ (c : Thread nD τ) none Set.univ) (Set.mem_univ _) () (O := owing c A ∅ ∅) (W := W) (R := 0) (m := 0) (T := ∅)
      (by rw [hN, Nat.zero_add]; exact (expect_cell m c hu).symm)) $$ [Hc Ho Hat]
  · isplitr; · iapply (env_inv m K (c, some (f, i))); iexact He
    isplitl [Hc]; · rw [hN]; iexact Hc
    isplitl [Ho]; · iexact Ho
    isplitr
    · iapply (mayWait c (.dma (dsem f i)) A ∅ ∅ (hA.imp id fun h => by subst h; rw [level_dsem]; decide) (.inl rfl) (.inl rfl))
      iapply (env_lev m K); iexact He
    iexact Hat
  iintro ⟨Ho, Hat, -, Hp⟩
  ihave Hp := (BIBase.Entails.of_eq (rest_cell m c hu)) $$ Hp
  iapply Hk
  isplitl [Hat Hp]
  · isplitl [Hat] <;> iassumption
  iexists _; iexact Ho

/-- A load of a slot. -/
theorem load_step {M : Memref sig .tc .vmem S8x256x512 .bf16} (i : Fin 8) (q : PosShare TreeShare) (X : Blk F)
    {o : Fin 3 → ℕ} (ho : o = ![i.val, 0, 0]) {hi : ∀ a, o a + S1x256x512.size a ≤ S8x256x512.size a}
    {hl : M.view.LoadsAt (Rect.unit (s := S8x256x512) o S1x256x512.size hi).toLoadRect}
    {kt : Blk F → Prog (TpuEff nD τ sig (Elt F) Λ₀ .tc) α} :
    (hold c M i q X : sProp 𝕄)
      ⊢ iprop((hold c M i q X -∗ wp frame (wpE (defs₀ (F := F)) 𝒱₀ (c : Thread nD τ) none) Set.univ (kt X) Q)
          -∗ wp frame (wpE (defs₀ (F := F)) 𝒱₀ (c : Thread nD τ) none) Set.univ
              (.op (.load M (Rect.unit (s := S8x256x512) o S1x256x512.size hi).toLoadRect hl) kt) Q) := by
  subst ho
  unfold hold owns
  iintro ⟨%f, %hf, H⟩ Hk
  iapply (wp_load_rect 𝒱₀ (c : Thread nD τ) none Set.univ (m := M) (r := slab i) (hl := hl) (k := kt) (S := (slot M i).view.set) (q := q) (f := f) subset_rfl) $$ H
  iintro H
  rw [show ((M.access (slab i)).read (Elt F) f) = X from hf]
  iapply Hk
  iexists f
  isplitr; · ipureintro; exact hf
  iexact H

/-- A store over a slot. -/
theorem store_step {M : Memref sig .tc .vmem S8x256x512 .bf16} (i : Fin 8) (w : Blk F)
    {o : Fin 3 → ℕ} (ho : o = ![i.val, 0, 0]) {hi : ∀ a, o a + S1x256x512.size a ≤ S8x256x512.size a}
    {hx : (M.access (Rect.unit (s := S8x256x512) o S1x256x512.size hi)).Stores Finset.univ}
    {hm : (Finset.univ : Finset (Rect.unit (s := S8x256x512) o S1x256x512.size hi).shape.Idx) = Finset.univ
      ∨ ∀ a, (Rect.unit (s := S8x256x512) o S1x256x512.size hi).stride a = 1}
    {kt : PUnit → Prog (TpuEff nD τ sig (Elt F) Λ₀ .tc) α} :
    (room c M i : sProp 𝕄)
      ⊢ iprop((hold c M i fullShare w -∗ wp frame (wpE (defs₀ (F := F)) 𝒱₀ (c : Thread nD τ) none) Set.univ (kt ⟨⟩) Q)
          -∗ wp frame (wpE (defs₀ (F := F)) 𝒱₀ (c : Thread nD τ) none) Set.univ
              (.op (.store M (Rect.unit (s := S8x256x512) o S1x256x512.size hi) w Finset.univ hx hm) kt) Q) := by
  subst ho
  rw [room_eq]
  iintro ⟨%f, H⟩ Hk
  iapply (wp_store 𝒱₀ (c : Thread nD τ) none Set.univ (m := M) (r := slab i) (w := w) (Mk := Finset.univ) (hx := hx) (hm := hm) (k := kt)
    (S := (slot M i).view.set) (f := f) subset_rfl) $$ H
  iintro H
  iapply Hk
  unfold hold owns
  iexists _
  isplitr; swap; · iexact H
  ipureintro
  exact View.read_write_univ _ _

/-- A copy of a slot into a slot of another device. -/
theorem send_step {kt : PUnit → Prog (TpuEff nD τ sig (Elt F) Λ₀ .tc) α} (c' : Dev nD) {M M' : Memref sig .tc .vmem S8x256x512 .bf16} (i j : Fin 8)
    (q : PosShare TreeShare) (X : Blk F) (f₁ f₂ : Fin 4) (i₁ i₂ : Fin 8) (h₁ : i₁ ≠ idle f₁ c) (h₂ : i₂ ≠ idle f₂ c')
    (hp₁ : hold c M i q X ⊢ cellPay m f₁ c i₁) (hp₂ : hold c' M' j fullShare X ⊢ cellPay m f₂ c' i₂)
    (hN : (slotq M' j).view.dmaCredit = N)
    {O₀ O : CellTallies nD τ sig Unit} (hO : O₀ = O + tallyAt (cell f₂ c' i₂) () N)
    {n : Dev nD} (hn : n = c') {s₁ s₂ : DmaSem sig} (hs₁ : s₁ = dsem f₁ i₁) (hs₂ : s₂ = dsem f₂ i₂)
    {o o' : Fin 3 → ℕ} (ho : o = ![i.val, 0, 0]) (ho' : o' = ![j.val, 0, 0])
    {hi : ∀ a, o a + S1x256x512.size a ≤ S8x256x512.size a} {hi' : ∀ a, o' a + S1x256x512.size a ≤ S8x256x512.size a}
    {hsc : ((M'.slice (Rect.unit (s := S8x256x512) o' S1x256x512.size hi') (fun _ => rfl)).squeeze S256x512 squeezes_S1x256x512_S256x512 :
      Memref sig (Dev.tc n : Thread nD τ).2.kind .vmem S256x512 .bf16).view.ref.isScScratch = false}
    {hsrc : ((M.slice (Rect.unit (s := S8x256x512) o S1x256x512.size hi) (fun _ => rfl)).squeeze S256x512 squeezes_S1x256x512_S256x512).view.WordExact}
    {hdst : ((M'.slice (Rect.unit (s := S8x256x512) o' S1x256x512.size hi') (fun _ => rfl)).squeeze S256x512 squeezes_S1x256x512_S256x512).view.WordExact}
    {hsem : DmaTarget.Typed .vmem (.dma s₂) (.remote (Dev.tc n : Thread nD τ)
      ((M'.slice (Rect.unit (s := S8x256x512) o' S1x256x512.size hi') (fun _ => rfl)).squeeze S256x512 squeezes_S1x256x512_S256x512) (.dma s₁) hsc)} :
    iprop(env m K ∗ (dutyTok ER (cell f₁ c i₁) 0 0 ∗ dutyTok ER (cell f₂ c' i₂) 0 0 ∗ hold c M i q X ∗ room c' M' j) ∗ owesW c O₀)
      ⊢ iprop((cred (tallyAt (cell f₁ c i₁) () N) ∗ owesW c O
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma ((M.slice (Rect.unit (s := S8x256x512) o S1x256x512.size hi) (fun _ => rfl)).squeeze S256x512 squeezes_S1x256x512_S256x512)
                (.remote (Dev.tc n : Thread nD τ)
                  ((M'.slice (Rect.unit (s := S8x256x512) o' S1x256x512.size hi') (fun _ => rfl)).squeeze S256x512 squeezes_S1x256x512_S256x512) (.dma s₁) hsc)
                (.dma s₂) hsrc hdst hsem) kt) Q) := by
  subst hn hs₁ hs₂ ho ho'
  have hset : ∀ (M : Memref sig .tc .vmem S8x256x512 .bf16) (i : Fin 8), (slotq M i).view.set = (slot M i).view.set := fun M i => View.set_reshape _ _
  rw [room_eq]
  unfold owesW
  iintro ⟨#He, ⟨Ht₁, Ht₂, Hs, ⟨%fd, Hd⟩⟩, ⟨%W, Ho⟩⟩ Hk
  unfold hold owns
  icases Hs with ⟨%fs, %hfs, Hs⟩
  iapply (Rounds.wp_send_pointsTo 𝒱₀ ER (Rd m) (c : Thread nD τ) none (c' := (n : Thread nD τ)) (src := slotq M i) (dst := slotq M' j)
    (κ₁ := K (c, some (f₁, i₁))) (κ₂ := K (n, some (f₂, i₂))) (q := q) (fs := fs) (fd := fd)
    (r₁ := 0) (r₂ := 0) (d₁ := 0) (d₂ := 0) (mem_duties_cell m c h₁) (mem_duties_cell m n h₂) () () N hN
    (amount_cell m c f₁ i₁ 0 0) (amount_cell m n f₂ i₂ 0 0) O hO (W := W)
    (by
      rw [payload_cell]
      refine .trans ?_ hp₁
      rw [hset]
      unfold hold owns
      iintro H; iexists fs; isplitr
      · ipureintro; exact hfs
      iexact H)
    (by
      rw [payload_cell]
      refine .trans ?_ hp₂
      rw [hset]
      unfold hold owns
      iintro H; iexists _; isplitr; swap; · iexact H
      ipureintro
      subst hfs
      funext x
      obtain ⟨y, rfl⟩ := (Shape.reshapeEquiv squeezes_S1x256x512_S256x512.numel_eq).surjective x
      exact View.read_write_reshape _ _ _ _ _)) $$ [Hs Hd Ho Ht₁ Ht₂]
  · isplitr; · iapply (env_inv m K (c, some (f₁, i₁))); iexact He
    isplitr; · iapply (env_inv m K (n, some (f₂, i₂))); iexact He
    isplitl [Hs]; · rw [hset]; iexact Hs
    isplitl [Hd]; · rw [hset]; iexact Hd
    isplitl [Ho]; · iexact Ho
    isplitl [Ht₁]; · iexact Ht₁
    isplitr; · iapply (env_reached m K (c, some (f₁, i₁))); iexact He
    isplitl [Ht₂]; · iexact Ht₂
    iapply (env_reached m K (n, some (f₂, i₂))); iexact He
  iintro ⟨Hc, Ho⟩
  iapply Hk
  isplitl [Hc]; · iexact Hc
  iexists W; iexact Ho

end Ops

/-! ## Seven times -/

/-- The offsets from the `t`-th on. -/
def todo (t : ℕ) : Finset (Fin 7) := Finset.univ.filter fun k => t ≤ k.val
/-- The offsets before the `t`-th. -/
def done (t : ℕ) : Finset (Fin 7) := Finset.univ.filter fun k => k.val < t

theorem todo_zero : todo 0 = Finset.univ := by decide
theorem todo_seven : todo 7 = ∅ := by decide
theorem done_zero : done 0 = ∅ := by decide
theorem done_seven : done 7 = Finset.univ := by decide
theorem todo_step : ∀ k : Fin 7, todo k.val = insert k (todo (k.val + 1)) ∧ k ∉ todo (k.val + 1) := by decide
theorem done_step : ∀ k : Fin 7, done (k.val + 1) = insert k (done k.val) ∧ k ∉ done k.val := by decide

/-- Before the `t`-th time: what the times to come need, what the earlier ones left, what is still owed. -/
def phase (c : Dev nD) (Φ Ψ : Fin 7 → sProp 𝕄) (O : Finset (Fin 7) → CellTallies nD τ sig Unit) (t : ℕ) : sProp 𝕄 :=
  iprop(bigSep (todo t) Φ ∗ bigSep (done t) Ψ ∗ owesW c (O (todo t)))

theorem bigSep_put {I : Type} [DecidableEq I] {S : Finset I} {i : I} (hi : i ∉ S) (Φ : I → sProp 𝕄) :
    bigSep (insert i S) Φ = iprop(Φ i ∗ bigSep S Φ) := BI.bigSep_insert hi

theorem phase_step {c : Dev nD} {Φ Ψ : Fin 7 → sProp 𝕄} {O : Finset (Fin 7) → CellTallies nD τ sig Unit} (k : Fin 7) (t : ℕ) (ht : k.val = t) {R X Y : sProp 𝕄}
    (h : ∀ S, k ∉ S → iprop(R ∗ Φ k ∗ owesW c (O (insert k S))) ⊢ iprop((Ψ k ∗ owesW c (O S) -∗ X) -∗ Y)) :
    iprop(R ∗ phase c Φ Ψ O t) ⊢ iprop((phase c Φ Ψ O (t + 1) -∗ X) -∗ Y) := by
  subst ht
  unfold phase
  rw [(done_step k).1, bigSep_put (done_step k).2, (todo_step k).1, bigSep_put (todo_step k).2]
  iintro ⟨HR, ⟨HΦ, Hto⟩, Hdo, Ho⟩ Hk
  iapply (h _ (todo_step k).2) $$ [HR HΦ Ho]
  · isplitl [HR]; · iexact HR
    isplitl [HΦ] <;> iassumption
  iintro ⟨HΨ, Ho⟩
  iapply Hk
  isplitl [Hto]; · iexact Hto
  isplitl [HΨ Hdo]
  · isplitl [HΨ] <;> iassumption
  iexact Ho

theorem phase_start (c : Dev nD) (Φ Ψ : Fin 7 → sProp 𝕄) (O : Finset (Fin 7) → CellTallies nD τ sig Unit) :
    iprop(bigSep Finset.univ Φ ∗ owesW c (O Finset.univ)) ⊢ phase c Φ Ψ O 0 := by
  unfold phase
  rw [todo_zero, done_zero, bigSep_empty]
  iintro ⟨H, Ho⟩
  isplitl [H]; · iexact H
  isplitr; · iempintro
  iexact Ho

theorem phase_end (c : Dev nD) (Φ Ψ : Fin 7 → sProp 𝕄) (O : Finset (Fin 7) → CellTallies nD τ sig Unit) :
    phase c Φ Ψ O 7 ⊢ iprop(bigSep Finset.univ Ψ ∗ owesW c (O ∅)) := by
  unfold phase
  rw [todo_seven, done_seven, bigSep_empty]
  iintro ⟨-, H, Ho⟩
  isplitl [H] <;> iassumption

end Cert.Exchange
-- ==== Proof.Data.lean ====
/-
# What a device starts from, passes through and ends with

The resources of each of the program's six repetitions (signals, copies of the activations, partials, arrivals of
partials, ends of the copies of the activations, ends of the copies of the partials), the device's result, and the
pipeline's data: the five inputs staged and left as they were, the result written.
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

abbrev s₀ : MemSt nD τ sig (Elt F) := ⟨m, fun _ => 0, ρ⟩

/-! ## A device's cells, as it meets them -/

/-- What each of a device's cells has: the barrier's; the unused entry of each array, and the entry of each offset. -/
theorem cells_split (P : Cell → sProp 𝕄) :
    bigSep Finset.univ P = iprop(P none
      ∗ (P (some (0, 0)) ∗ bigSep Finset.univ fun k : Fin 7 => P (some (0, k.succ)))
      ∗ (P (some (1, c)) ∗ bigSep Finset.univ fun k : Fin 7 => P (some (1, bwd c k)))
      ∗ (P (some (2, 0)) ∗ bigSep Finset.univ fun k : Fin 7 => P (some (2, k.succ)))
      ∗ (P (some (3, c)) ∗ bigSep Finset.univ fun k : Fin 7 => P (some (3, fwd c k)))) := by
  have h4 (Φ : Fin 4 → sProp 𝕄) : bigSep Finset.univ Φ = iprop(Φ 0 ∗ Φ 1 ∗ Φ 2 ∗ Φ 3) :=
    bigSep_univ_eq_bigSepL [0, 1, 2, 3] (by decide) (by decide) Φ
  have ho : bigSep Finset.univ P = iprop(P none ∗ bigSep Finset.univ fun x : Fin 4 × Fin 8 => P (some x)) := by
    rw [show (Finset.univ : Finset Cell) = insert none (Finset.univ.map Function.Embedding.some) from by decide,
      bigSep_put (by decide), bigSep_map]
    rfl
  rw [ho, bigSep_univ_prod, h4, bigSep_succ fun i => P (some (0, i)), bigSep_succ fun i => P (some (2, i)),
    bigSep_bwd (P := fun i => P (some (1, i))) c, bigSep_fwd (P := fun i => P (some (3, i))) c]

/-! ## The repetitions -/

/-- Every slot counts the same bytes. -/
theorem credit_xg {o : Fin 3 → ℕ} (hi : ∀ a, o a + S1x256x512.size a ≤ S8x256x512.size a) :
    ((xgM.slice (Rect.unit (s := S8x256x512) o S1x256x512.size hi) (fun _ => rfl)).squeeze S256x512 squeezes_S1x256x512_S256x512).view.dmaCredit = N := rfl
theorem credit_as {o : Fin 3 → ℕ} (hi : ∀ a, o a + S1x256x512.size a ≤ S8x256x512.size a) :
    ((asM.slice (Rect.unit (s := S8x256x512) o S1x256x512.size hi) (fun _ => rfl)).squeeze S256x512 squeezes_S1x256x512_S256x512).view.dmaCredit = N := rfl
theorem credit_ar {o : Fin 3 → ℕ} (hi : ∀ a, o a + S1x256x512.size a ≤ S8x256x512.size a) :
    ((arM.slice (Rect.unit (s := S8x256x512) o S1x256x512.size hi) (fun _ => rfl)).squeeze S256x512 squeezes_S1x256x512_S256x512).view.dmaCredit = N := rfl

def sigNeed (k : Fin 7) : sProp 𝕄 := iprop(dutyTok ER (bar (fwd c k)) 0 k ∗ room c xgM (fwd c k) ∗ room c arM (fwd c k))
def sigOwe (S : Finset (Fin 7)) : CellTallies nD τ sig Unit := owing c Finset.univ Finset.univ S

def xsNeed (k : Fin 7) : sProp 𝕄 :=
  iprop(dutyTok ER (cell 0 c k.succ) 0 0 ∗ dutyTok ER (cell 1 (fwd c k) c) 0 0 ∗ hold c xgM c (lf k.succ) (xb m c) ∗ room (fwd c k) xgM c)
def xsLeave (k : Fin 7) : sProp 𝕄 := cred (tallyAt (cell 0 c k.succ) () N)
def xsOwe (S : Finset (Fin 7)) : CellTallies nD τ sig Unit := owing c Finset.univ S ∅

def ptNeed (k : Fin 7) : sProp 𝕄 :=
  iprop((cred (tallyAt (cell 1 c (bwd c k)) () N) ∗ atPos ER (cell 1 c (bwd c k)) 0 ∅ 0)
    ∗ dutyTok ER (cell 2 c k.succ) 0 0 ∗ dutyTok ER (cell 3 (bwd c k) c) 0 0 ∗ room c asM (bwd c k) ∗ room (bwd c k) arM c)
def ptLeave (k : Fin 7) : sProp 𝕄 :=
  iprop(atPos ER (cell 1 c (bwd c k)) 1 ∅ 0 ∗ hold c xgM (bwd c k) fullShare (xb m (bwd c k)) ∗ cred (tallyAt (cell 2 c k.succ) () N))
def ptOwe (S : Finset (Fin 7)) : CellTallies nD τ sig Unit := owing c S ∅ ∅

def arNeed (k : Fin 7) : sProp 𝕄 := iprop(cred (tallyAt (cell 3 c (fwd c k)) () N) ∗ atPos ER (cell 3 c (fwd c k)) 0 ∅ 0)
def arLeave (k : Fin 7) : sProp 𝕄 := iprop(atPos ER (cell 3 c (fwd c k)) 1 ∅ 0 ∗ hold c arM (fwd c k) fullShare (part m (fwd c k) (xb m c)))
def noOwe (S : Finset (Fin 7)) : CellTallies nD τ sig Unit := owing c ∅ ∅ ∅

def xeNeed (k : Fin 7) : sProp 𝕄 := iprop(cred (tallyAt (cell 0 c k.succ) () N) ∗ atPos ER (cell 0 c k.succ) 0 ∅ 0)
def xeLeave (k : Fin 7) : sProp 𝕄 := iprop(atPos ER (cell 0 c k.succ) 1 ∅ 0 ∗ hold c xgM c (lf k.succ) (xb m c))

def peNeed (k : Fin 7) : sProp 𝕄 := iprop(cred (tallyAt (cell 2 c k.succ) () N) ∗ atPos ER (cell 2 c k.succ) 0 ∅ 0)
def peLeave (k : Fin 7) : sProp 𝕄 := iprop(atPos ER (cell 2 c k.succ) 1 ∅ 0 ∗ room c asM (bwd c k))

variable (K : Dev nD × Cell → ℕ)

section Steps

variable {α : Type} {Q : α → sProp (MT nD τ sig Unit (Elt F) ℕ UU ℕ)}

theorem owing_insert_B {A X B : Finset (Fin 7)} {k : Fin 7} (h : k ∉ B) : owing c A X (insert k B) = owing c A X B + oweB c k := by
  unfold owing; rw [Finset.sum_insert h]; simp only [add_comm, add_left_comm]
theorem owing_insert_X {A X B : Finset (Fin 7)} {k : Fin 7} (h : k ∉ X) : owing c A (insert k X) B = owing c A X B + oweX c k := by
  unfold owing; rw [Finset.sum_insert h]; simp only [add_comm, add_left_comm]
theorem owing_insert_A {A X B : Finset (Fin 7)} {k : Fin 7} (h : k ∉ A) : owing c (insert k A) X B = owing c A X B + oweA c k := by
  unfold owing; rw [Finset.sum_insert h]; simp only [add_comm, add_left_comm]

/-- The `t`-th signal. -/
theorem sig_step {kt : PUnit → Prog (TpuEff nD τ sig (Elt F) Λ₀ .tc) α} (k : Fin 7) (t : ℕ) (ht : k.val = t) (n : Dev nD) (hn : n = fwd c k) {w : ℕ} (hw : w = 1) :
    iprop(env m K ∗ phase c (sigNeed c) (fun _ => iprop(emp)) (sigOwe c) t)
      ⊢ iprop((phase c (sigNeed c) (fun _ => iprop(emp)) (sigOwe c) (t + 1) -∗ wp frame (wpE (defs₀ (F := F)) 𝒱₀ (c : Thread nD τ) none) Set.univ (kt ⟨⟩) Q)
          -∗ wp frame (wpE (defs₀ (F := F)) 𝒱₀ (c : Thread nD τ) none) Set.univ (.op (.semSignal (n : Thread nD τ) barS w) kt) Q) :=
  phase_step k t ht fun S hS => signal_step m K c k n hn hw (owing_insert_B c hS)

/-- The `t`-th copy of the activations. -/
theorem xs_step {kt : PUnit → Prog (TpuEff nD τ sig (Elt F) Λ₀ .tc) α} (k : Fin 7) (t : ℕ) (ht : k.val = t)
    {n : Dev nD} (hn : n = fwd c k) {s₁ s₂ : DmaSem sig} (hs₁ : s₁ = dsem 0 k.succ) (hs₂ : s₂ = dsem 1 c)
    {o : Fin 3 → ℕ} (ho : o = ![c.val, 0, 0])
    {hi : ∀ a, o a + S1x256x512.size a ≤ S8x256x512.size a} {hi' : ∀ a, o a + S1x256x512.size a ≤ S8x256x512.size a}
    {hsc : ((xgM.slice (Rect.unit (s := S8x256x512) o S1x256x512.size hi') (fun _ => rfl)).squeeze S256x512 squeezes_S1x256x512_S256x512 :
      Memref sig (Dev.tc n : Thread nD τ).2.kind .vmem S256x512 .bf16).view.ref.isScScratch = false}
    {hsrc : ((xgM.slice (Rect.unit (s := S8x256x512) o S1x256x512.size hi) (fun _ => rfl)).squeeze S256x512 squeezes_S1x256x512_S256x512).view.WordExact}
    {hdst : ((xgM.slice (Rect.unit (s := S8x256x512) o S1x256x512.size hi') (fun _ => rfl)).squeeze S256x512 squeezes_S1x256x512_S256x512).view.WordExact}
    {hsem : DmaTarget.Typed .vmem (.dma s₂) (.remote (Dev.tc n : Thread nD τ)
      ((xgM.slice (Rect.unit (s := S8x256x512) o S1x256x512.size hi') (fun _ => rfl)).squeeze S256x512 squeezes_S1x256x512_S256x512) (.dma s₁) hsc)} :
    iprop(env m K ∗ phase c (xsNeed m c) (xsLeave c) (xsOwe c) t)
      ⊢ iprop((phase c (xsNeed m c) (xsLeave c) (xsOwe c) (t + 1) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma ((xgM.slice (Rect.unit (s := S8x256x512) o S1x256x512.size hi) (fun _ => rfl)).squeeze S256x512 squeezes_S1x256x512_S256x512)
                (.remote (Dev.tc n : Thread nD τ)
                  ((xgM.slice (Rect.unit (s := S8x256x512) o S1x256x512.size hi') (fun _ => rfl)).squeeze S256x512 squeezes_S1x256x512_S256x512) (.dma s₁) hsc)
                (.dma s₂) hsrc hdst hsem) kt) Q) :=
  phase_step k t ht fun S hS => send_step m K c (fwd c k) c c (lf k.succ) (xb m c) 0 1 k.succ c (used_0 c k) (used_1' c k)
    (by rw [cellPay_0]) (by rw [cellPay_1]) (credit_xg _) (owing_insert_X c hS) hn hs₁ hs₂ ho ho

/-- The `t`-th partial: the wait for the activations, their load, the partial's store, its copy. -/
theorem pt_step {kt : PUnit → Prog (TpuEff nD τ sig (Elt F) Λ₀ .tc) α} (k : Fin 7) (t : ℕ) (ht : k.val = t)
    {n : Dev nD} (hn : n = bwd c k) {s₃ s₁ s₂ : DmaSem sig} (hs₃ : s₃ = dsem 1 (bwd c k)) (hs₁ : s₁ = dsem 2 k.succ) (hs₂ : s₂ = dsem 3 c)
    {o o₁ o₃ : Fin 3 → ℕ} (ho : o = ![(bwd c k).val, 0, 0]) (ho₁ : o₁ = ![(bwd c k).val, 0, 0]) (ho₃ : o₃ = ![c.val, 0, 0])
    (pf : Blk F → Blk F) (hpf : ∀ X, pf X = part m c X)
    {hi hi' hi₁ hi₁' hi₁''} {hi₁₁} {hi₃}
    {hw hw'} {hl hl'} {hx} {hm} {hsc} {hsrc} {hdst} {hsem} :
    iprop(env m K ∗ phase c (ptNeed c) (ptLeave m c) (ptOwe c) t)
      ⊢ iprop((phase c (ptNeed c) (ptLeave m c) (ptOwe c) (t + 1) -∗ wp frame (wpE (defs₀ (F := F)) 𝒱₀ (c : Thread nD τ) none) Set.univ (kt ⟨⟩) Q)
          -∗ wp frame (wpE (defs₀ (F := F)) 𝒱₀ (c : Thread nD τ) none) Set.univ
              (.op (.waitDma2 s₃ ((xgM.slice (Rect.unit (s := S8x256x512) o S1x256x512.size hi) (fun _ => rfl)).squeeze S256x512 squeezes_S1x256x512_S256x512)
                  ((xgM.slice (Rect.unit (s := S8x256x512) o S1x256x512.size hi') (fun _ => rfl)).squeeze S256x512 squeezes_S1x256x512_S256x512) hw hw') fun _ =>
                .op (.load xgM (Rect.unit (s := S8x256x512) o₁ S1x256x512.size hi₁).toLoadRect hl) fun X =>
                .op (.load asM (Rect.unit (s := S8x256x512) o₁ S1x256x512.size hi₁').toLoadRect hl') fun _ =>
                .op (.store asM (Rect.unit (s := S8x256x512) o₁ S1x256x512.size hi₁'') (pf X) Finset.univ hx hm) fun _ =>
                .op (.enqueueDma ((asM.slice (Rect.unit (s := S8x256x512) o S1x256x512.size hi₁₁) (fun _ => rfl)).squeeze S256x512 squeezes_S1x256x512_S256x512)
                (.remote (Dev.tc n : Thread nD τ)
                  ((arM.slice (Rect.unit (s := S8x256x512) o₃ S1x256x512.size hi₃) (fun _ => rfl)).squeeze S256x512 squeezes_S1x256x512_S256x512) (.dma s₁) hsc)
                (.dma s₂) hsrc hdst hsem) kt) Q) := by
  refine phase_step k t ht fun S hS => ?_
  unfold ptNeed ptLeave ptOwe
  iintro ⟨#He, ⟨Hw, Ht₁, Ht₂, Has, Har⟩, Ho⟩ Hk
  iapply (wait_step m K c 1 (bwd c k) (used_1 c k) (insert k S) (.inr rfl) hs₃ (hsrc := hw) (hdst := hw') (credit_xg hi')) $$ [Hw Ho]
  · isplitr; · iexact He
    isplitl [Hw] <;> iassumption
  iintro ⟨⟨Hat, Hx⟩, Ho⟩
  ihave Hx := (BIBase.Entails.of_eq (cellPay_1 m c (bwd c k))) $$ Hx
  iapply (load_step c (bwd c k) fullShare (xb m (bwd c k)) ho₁) $$ Hx
  iintro Hx
  icases Has with ⟨%X₀, Has⟩
  iapply (load_step c (bwd c k) fullShare X₀ ho₁) $$ Has
  iintro Has
  ihave Has := (hold_room c asM (bwd c k) X₀) $$ Has
  iapply (store_step c (bwd c k) (pf (xb m (bwd c k))) ho₁) $$ Has
  iintro Has
  ihave Has := (BIBase.Entails.of_eq (congrArg (hold c asM (bwd c k) fullShare) (hpf (xb m (bwd c k))))) $$ Has
  iapply (send_step m K c (bwd c k) (bwd c k) c fullShare (part m c (xb m (bwd c k))) 2 3 k.succ c (used_2 c k) (used_3' c k)
    (by rw [cellPay_2, offOf_succ]; exact hold_room _ _ _ _) (by rw [cellPay_3]) (credit_ar _) (owing_insert_A c hS) hn hs₁ hs₂ ho ho₃) $$ [Ht₁ Ht₂ Has Har Ho]
  · isplitr; · iexact He
    isplitr [Ho]
    · isplitl [Ht₁]; · iexact Ht₁
      isplitl [Ht₂]; · iexact Ht₂
      isplitl [Has] <;> iassumption
    iexact Ho
  iintro ⟨Hc, Ho⟩
  iapply Hk
  isplitr [Ho]
  · isplitl [Hat]; · iexact Hat
    isplitl [Hx] <;> iassumption
  iexact Ho

/-- The `t`-th arrival of a partial, and its load. -/
theorem ar_step {kt : Blk F → Prog (TpuEff nD τ sig (Elt F) Λ₀ .tc) α} (k : Fin 7) (t : ℕ) (ht : k.val = t)
    {s₃ : DmaSem sig} (hs₃ : s₃ = dsem 3 (fwd c k))
    {o o₁ : Fin 3 → ℕ} (ho₁ : o₁ = ![(fwd c k).val, 0, 0]) {hi hi' hi₁} {hw hw'} {hl} :
    iprop(env m K ∗ phase c (arNeed c) (arLeave m c) (noOwe c) t)
      ⊢ iprop((phase c (arNeed c) (arLeave m c) (noOwe c) (t + 1)
            -∗ wp frame (wpE (defs₀ (F := F)) 𝒱₀ (c : Thread nD τ) none) Set.univ (kt (part m (fwd c k) (xb m c))) Q)
          -∗ wp frame (wpE (defs₀ (F := F)) 𝒱₀ (c : Thread nD τ) none) Set.univ
              (.op (.waitDma2 s₃ ((asM.slice (Rect.unit (s := S8x256x512) o S1x256x512.size hi) (fun _ => rfl)).squeeze S256x512 squeezes_S1x256x512_S256x512)
                  ((arM.slice (Rect.unit (s := S8x256x512) o S1x256x512.size hi') (fun _ => rfl)).squeeze S256x512 squeezes_S1x256x512_S256x512) hw hw') fun _ =>
                .op (.load arM (Rect.unit (s := S8x256x512) o₁ S1x256x512.size hi₁).toLoadRect hl) kt) Q) := by
  refine phase_step k t ht fun S hS => ?_
  unfold arNeed arLeave noOwe
  iintro ⟨#He, Hw, Ho⟩ Hk
  iapply (wait_step m K c 3 (fwd c k) (used_3 c k) ∅ (.inl rfl) hs₃ (hsrc := hw) (hdst := hw') (credit_ar hi')) $$ [Hw Ho]
  · isplitr; · iexact He
    isplitl [Hw] <;> iassumption
  iintro ⟨⟨Hat, Hx⟩, Ho⟩
  ihave Hx := (BIBase.Entails.of_eq (cellPay_3 m c (fwd c k))) $$ Hx
  iapply (load_step c (fwd c k) fullShare (part m (fwd c k) (xb m c)) ho₁) $$ Hx
  iintro Hx
  iapply Hk
  isplitr [Ho]
  · isplitl [Hat] <;> iassumption
  iexact Ho

/-- The `t`-th end of a copy of the activations. -/
theorem xe_step {kt : PUnit → Prog (TpuEff nD τ sig (Elt F) Λ₀ .tc) α} (k : Fin 7) (t : ℕ) (ht : k.val = t)
    {s₃ : DmaSem sig} (hs₃ : s₃ = dsem 0 k.succ) {o : Fin 3 → ℕ} {hi hi'} {hw hw'} :
    iprop(env m K ∗ phase c (xeNeed c) (xeLeave m c) (noOwe c) t)
      ⊢ iprop((phase c (xeNeed c) (xeLeave m c) (noOwe c) (t + 1) -∗ wp frame (wpE (defs₀ (F := F)) 𝒱₀ (c : Thread nD τ) none) Set.univ (kt ⟨⟩) Q)
          -∗ wp frame (wpE (defs₀ (F := F)) 𝒱₀ (c : Thread nD τ) none) Set.univ
              (.op (.waitDma2 s₃ ((xgM.slice (Rect.unit (s := S8x256x512) o S1x256x512.size hi) (fun _ => rfl)).squeeze S256x512 squeezes_S1x256x512_S256x512)
                  ((xgM.slice (Rect.unit (s := S8x256x512) o S1x256x512.size hi') (fun _ => rfl)).squeeze S256x512 squeezes_S1x256x512_S256x512) hw hw') kt) Q) := by
  refine phase_step k t ht fun S hS => ?_
  unfold xeNeed xeLeave noOwe
  rw [← cellPay_0 m c k.succ]
  exact wait_step m K c 0 k.succ (used_0 c k) ∅ (.inl rfl) hs₃ (credit_xg hi')

/-- The `t`-th end of a copy of a partial. -/
theorem pe_step {kt : PUnit → Prog (TpuEff nD τ sig (Elt F) Λ₀ .tc) α} (k : Fin 7) (t : ℕ) (ht : k.val = t)
    {s₃ : DmaSem sig} (hs₃ : s₃ = dsem 2 k.succ) {o o₁ : Fin 3 → ℕ} {hi hi'} {hw hw'} :
    iprop(env m K ∗ phase c (peNeed c) (peLeave c) (noOwe c) t)
      ⊢ iprop((phase c (peNeed c) (peLeave c) (noOwe c) (t + 1) -∗ wp frame (wpE (defs₀ (F := F)) 𝒱₀ (c : Thread nD τ) none) Set.univ (kt ⟨⟩) Q)
          -∗ wp frame (wpE (defs₀ (F := F)) 𝒱₀ (c : Thread nD τ) none) Set.univ
              (.op (.waitDma2 s₃ ((arM.slice (Rect.unit (s := S8x256x512) o S1x256x512.size hi) (fun _ => rfl)).squeeze S256x512 squeezes_S1x256x512_S256x512)
                  ((asM.slice (Rect.unit (s := S8x256x512) o₁ S1x256x512.size hi') (fun _ => rfl)).squeeze S256x512 squeezes_S1x256x512_S256x512) hw hw') kt) Q) := by
  refine phase_step k t ht fun S hS => ?_
  unfold peNeed peLeave noOwe
  have h := wait_step (kt := kt) (Q := Q) m K c 2 k.succ (used_2 c k) ∅ (.inl rfl) hs₃ (src := (arM.slice (Rect.unit (s := S8x256x512) o S1x256x512.size hi) (fun _ => rfl)).squeeze S256x512 squeezes_S1x256x512_S256x512) (dst := (asM.slice (Rect.unit (s := S8x256x512) o₁ S1x256x512.size hi') (fun _ => rfl)).squeeze S256x512 squeezes_S1x256x512_S256x512) (hsrc := hw) (hdst := hw') (credit_as hi')
  rw [cellPay_2, offOf_succ] at h
  exact h

end Steps

/-! ## The result -/

/-- A device's own heads' part of its own result. -/
def own : FVec F S256x512 .f32 :=
  k0_pay10 (k0_pay5 (ov m c)) (k0_pay8 (qv m c) (kv m c) (vv m c) (xb m c)) (k0_pay9 (qv m c) (kv m c) (xb m c))

/-- The partial received from the device `k + 1` after. -/
abbrev rcv (k : Fin 7) : Blk F := part m (fwd c k) (xb m c)

/-- The result of device `c`: its own part and the seven received, added in the order of the offsets. -/
def outv : (cc0_stg5_0 : Ref sig .tc).ty.Contents (Elt F) :=
  k0_pay33 (k0_pay32 (k0_pay31 (k0_pay30 (own m c) (rcv m c 0)) (rcv m c 1) (rcv m c 2)) (rcv m c 3) (rcv m c 4)) (rcv m c 5) (rcv m c 6)

/-! ## Start and end -/

/-- The tokens of the duties device `c` pays. -/
def payToks : sProp 𝕄 :=
  bigSep Finset.univ fun k : Fin 7 => iprop(dutyTok ER (bar (fwd c k)) 0 k
    ∗ dutyTok ER (cell 0 c k.succ) 0 0 ∗ dutyTok ER (cell 1 (fwd c k) c) 0 0
    ∗ dutyTok ER (cell 2 c k.succ) 0 0 ∗ dutyTok ER (cell 3 (bwd c k) c) 0 0)

/-- What others owe it. -/
def credits : sProp 𝕄 :=
  iprop(cred (tallyAt (bar c) () 7) ∗ (bigSep Finset.univ fun k : Fin 7 => cred (tallyAt (cell 1 c (bwd c k)) () N))
    ∗ bigSep Finset.univ fun k : Fin 7 => cred (tallyAt (cell 3 c (fwd c k)) () N))

/-- Its positions at its cells, and the tokens it pays with. -/
def linear : sProp 𝕄 := iprop((bigSep Finset.univ fun x : Cell => atPos ER (kcell (c, x)) 0 ∅ 0) ∗ payToks c)

def ghost : sProp 𝕄 := iprop(∃ K, env m K ∗ linear c)

def start : sProp 𝕄 := iprop(ghost m c ∗ credits c)

/-- Its three scratch buffers. -/
def scratch : sProp 𝕄 :=
  iprop((∃ f, (c : Thread nD τ).loc cc0_scratch0 ↦{fullShare} f) ∗ (∃ f, (c : Thread nD τ).loc cc0_scratch1 ↦{fullShare} f)
    ∗ ∃ f, (c : Thread nD τ).loc cc0_scratch2 ↦{fullShare} f)

def Φ₀ : sProp 𝕄 := iprop(start m c ∗ scratch c)
/-- At the end all cells are closed at zero. -/
def Φ₁ : sProp 𝕄 := iprop(scratch c ∗ bigSep Finset.univ fun x : Cell => semVal (kcell (c, x)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xv m c
    | ⟨1, _⟩ => qv m c
    | ⟨2, _⟩ => ov m c
    | ⟨3, _⟩ => kv m c
    | ⟨4, _⟩ => vv m c
    | ⟨5, _⟩ => outv m c
  Φ t := match t with
    | ⟨0, _⟩ => Φ₀ m c
    | ⟨_ + 1, _⟩ => Φ₁ c
  q _ := fullShare
  owed t := match t with
    | ⟨0, _⟩ => O₀ c
    | ⟨_ + 1, _⟩ => 0

end Cert.Exchange
-- ==== Proof.Names.lean ====
/-
# What the program names

The semaphores, slots and whole buffers as the program's text names them, and what they are.
-/
module

public import proofs.«01_k».proof.Proof.Data

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD) (K : Dev nD × Cell → ℕ)

theorem z2 : (![0, 0] : Fin 2 → ℕ) = fun _ => 0 := funext fun a => by fin_cases a <;> rfl
theorem z3 : (![0, 0, 0] : Fin 3 → ℕ) = fun _ => 0 := funext fun a => by fin_cases a <;> rfl

/-- A device, as the program computes it. -/
theorem dev_eq {v : ℕ} {h : v < nD} {d : Dev nD} (e : v = d.val) : (⟨v, h⟩ : Dev nD) = d := Fin.ext e

/-! ## The semaphores, as the program names them -/

theorem sem_xs {o : Fin 1 → ℕ} (i : Fin 8) (ho : o = ![i.val]) (h : ∀ a, o a + S1.size a ≤ S8.size a) :
    ((cc0_scratch3.slice (Rect.unit (s := S8) o S1.size h)).squeeze S_ squeezes_S1_S_).sem = dsem 0 i := by
  subst ho; revert i; decide
theorem sem_xr {o : Fin 1 → ℕ} (i : Fin 8) (ho : o = ![i.val]) (h : ∀ a, o a + S1.size a ≤ S8.size a) :
    ((cc0_scratch4.slice (Rect.unit (s := S8) o S1.size h)).squeeze S_ squeezes_S1_S_).sem = dsem 1 i := by
  subst ho; revert i; decide
theorem sem_ps {o : Fin 1 → ℕ} (i : Fin 8) (ho : o = ![i.val]) (h : ∀ a, o a + S1.size a ≤ S8.size a) :
    ((cc0_scratch5.slice (Rect.unit (s := S8) o S1.size h)).squeeze S_ squeezes_S1_S_).sem = dsem 2 i := by
  subst ho; revert i; decide
theorem sem_pr {o : Fin 1 → ℕ} (i : Fin 8) (ho : o = ![i.val]) (h : ∀ a, o a + S1.size a ≤ S8.size a) :
    ((cc0_scratch6.slice (Rect.unit (s := S8) o S1.size h)).squeeze S_ squeezes_S1_S_).sem = dsem 3 i := by
  subst ho; revert i; decide

/-- A step may keep what holds at any time beside what it changes. -/
theorem keep {P P' X Y : sProp 𝕄} (h : iprop(env m K ∗ P) ⊢ iprop((P' -∗ X) -∗ Y)) : iprop(env m K ∗ P) ⊢ iprop((iprop(env m K ∗ P') -∗ X) -∗ Y) := by
  iintro ⟨#He, HP⟩ Hk
  iapply h $$ [HP]
  · isplitr; · iexact He
    iexact HP
  iintro HP
  iapply Hk
  isplitr; · iexact He
  iexact HP

/-- A load of a whole buffer reads `X`, its contents. -/
theorem load_whole {α : Type} {Q : α → sProp (MT nD τ sig Unit (Elt F) ℕ UU ℕ)} {cs : CoreSpace} {s : Shape} {e : EltTy} {M : Memref sig .tc cs s e} {r : LoadRect s} {hl : M.view.LoadsAt r}
    {f : Buf (Elt F) (M.view.loc (c : Thread nD τ))} (X : r.shape.Idx → Elt F e) (h : M.view.readAt (Elt F) r f = X)
    {kt : (r.shape.Idx → Elt F e) → Prog (TpuEff nD τ sig (Elt F) Λ₀ .tc) α} :
    (M.view.loc (c : Thread nD τ) ↦{fullShare} f : sProp 𝕄)
      ⊢ iprop(((M.view.loc (c : Thread nD τ) ↦{fullShare} f) -∗ wp frame (wpE (defs₀ (F := F)) 𝒱₀ (c : Thread nD τ) none) Set.univ (kt X) Q)
          -∗ wp frame (wpE (defs₀ (F := F)) 𝒱₀ (c : Thread nD τ) none) Set.univ (.op (.load M r hl) kt) Q) := by
  subst h
  exact wp_load 𝒱₀ (c : Thread nD τ) none Set.univ (Finset.subset_univ _)

/-- A store over a whole buffer leaves `X`. -/
theorem store_whole {α : Type} {Q : α → sProp (MT nD τ sig Unit (Elt F) ℕ UU ℕ)} {cs : CoreSpace} {s : Shape} {e : EltTy} {M : Memref sig .tc cs s e} {r : Rect s}
    {w : r.shape.Idx → Elt F e} {Mk : Finset r.shape.Idx} {hx : (M.access r).Stores Mk} {hm : Mk = Finset.univ ∨ ∀ a, r.stride a = 1}
    {f : Buf (Elt F) (M.view.loc (c : Thread nD τ))} (X : Buf (Elt F) (M.view.loc (c : Thread nD τ))) (h : (M.access r).write (Elt F) f w Mk = X)
    {kt : PUnit → Prog (TpuEff nD τ sig (Elt F) Λ₀ .tc) α} :
    (M.view.loc (c : Thread nD τ) ↦{fullShare} f : sProp 𝕄)
      ⊢ iprop(((M.view.loc (c : Thread nD τ) ↦{fullShare} X) -∗ wp frame (wpE (defs₀ (F := F)) 𝒱₀ (c : Thread nD τ) none) Set.univ (kt ⟨⟩) Q)
          -∗ wp frame (wpE (defs₀ (F := F)) 𝒱₀ (c : Thread nD τ) none) Set.univ (.op (.store M r w Mk hx hm) kt) Q) := by
  subst h
  exact wp_store 𝒱₀ (c : Thread nD τ) none Set.univ (m := M) (r := r) (w := w) (Mk := Mk) (hx := hx) (hm := hm) (k := kt) (S := Finset.univ) (f := f) (Finset.subset_univ _)

omit [FloatOps F] in
/-- The slots handed over at the barrier, by the offset of the copy into each. -/
theorem rooms_rev : (bigSep Finset.univ fun k : Fin 7 => room (F := F) (bwd c k) xgM c)
    = bigSep Finset.univ fun k : Fin 7 => room (F := F) (fwd c k) xgM c := by
  rw [bigSep_univ_equiv Fin.revPerm (Φ := fun k : Fin 7 => room (F := F) (bwd c k) xgM c)]
  exact bigSep_congr fun k _ => congrArg (fun d => room (F := F) d xgM c) (bwd_rev c k)

end Cert.Exchange
-- ==== Proof.Close.lean ====
/-
# The end of the program

What a device is left with after its last wait, put together: its three scratch buffers, and every one of its cells
closed at zero.
-/
module

public import proofs.«01_k».proof.Proof.Names

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD) (K : Dev nD × Cell → ℕ)

/-- A position after which nothing is expected. -/
def atEnd (g : GSem nD τ sig) : sProp 𝕄 := iprop(∃ R : ℕ, ⌜∀ r, R ≤ r → (Rd (F := F) m).duties g r = ∅⌝ ∗ atPos ER g R ∅ 0)

theorem atEnd_one (g : GSem nD τ sig) : (atPos ER g 1 ∅ 0 : sProp 𝕄) ⊢ atEnd m g := by
  unfold atEnd
  iintro H; iexists 1
  isplitr
  · ipureintro; exact fun r hr => duties_later m g r hr
  iexact H

/-- The entries that are not used expect nothing at all. -/
theorem atEnd_idle (f : Fin 4) (i : Fin 8) (h : i = idle f c) : (atPos ER (cell f c i) 0 ∅ 0 : sProp 𝕄) ⊢ atEnd m (cell f c i) := by
  unfold atEnd
  iintro H; iexists 0
  isplitr
  · ipureintro
    intro r _
    rcases Nat.eq_zero_or_pos r with rfl | hr
    · rw [duties_cell, if_pos h]
    · exact duties_later m _ r hr
  iexact H

theorem atEnd_seven (g : Fin 7 → GSem nD τ sig) :
    (bigSep Finset.univ fun k => (atPos ER (g k) 1 ∅ 0 : sProp 𝕄)) ⊢ bigSep Finset.univ fun k => atEnd m (g k) :=
  bigSep_mono fun k _ => atEnd_one m (g k)

/-- Every cell of the device is at its end. -/
theorem cells_end :
    iprop(atPos ER (bar c) 1 ∅ 0
      ∗ (atPos ER (cell 0 c 0) 0 ∅ 0 ∗ bigSep Finset.univ fun k : Fin 7 => atPos ER (cell 0 c k.succ) 1 ∅ 0)
      ∗ (atPos ER (cell 1 c c) 0 ∅ 0 ∗ bigSep Finset.univ fun k : Fin 7 => atPos ER (cell 1 c (bwd c k)) 1 ∅ 0)
      ∗ (atPos ER (cell 2 c 0) 0 ∅ 0 ∗ bigSep Finset.univ fun k : Fin 7 => atPos ER (cell 2 c k.succ) 1 ∅ 0)
      ∗ (atPos ER (cell 3 c c) 0 ∅ 0 ∗ bigSep Finset.univ fun k : Fin 7 => atPos ER (cell 3 c (fwd c k)) 1 ∅ 0))
      ⊢ bigSep Finset.univ fun x : Cell => atEnd m (kcell (c, x)) := by
  rw [cells_split c]
  iintro ⟨HB, ⟨H00, H0⟩, ⟨H11, H1⟩, ⟨H20, H2⟩, ⟨H33, H3⟩⟩
  isplitl [HB]; · iapply (atEnd_one m (bar c)); iexact HB
  isplitl [H00 H0]
  · isplitl [H00]; · iapply (atEnd_idle m c 0 0 (by rfl)); iexact H00
    iapply (atEnd_seven m fun k => cell 0 c k.succ); iexact H0
  isplitl [H11 H1]
  · isplitl [H11]; · iapply (atEnd_idle m c 1 c (by rfl)); iexact H11
    iapply (atEnd_seven m fun k => cell 1 c (bwd c k)); iexact H1
  isplitl [H20 H2]
  · isplitl [H20]; · iapply (atEnd_idle m c 2 0 (by rfl)); iexact H20
    iapply (atEnd_seven m fun k => cell 2 c k.succ); iexact H2
  isplitl [H33]; · iapply (atEnd_idle m c 3 c (by rfl)); iexact H33
  iapply (atEnd_seven m fun k => cell 3 c (fwd c k)); iexact H3

/-- A cell at its end closes at zero. -/
theorem cell_end (x : Cell) : iprop(env m K ∗ atEnd m (kcell (c, x))) ⊢ (|={Set.univ}=> semVal (kcell (c, x)) 0 : sProp 𝕄) := by
  unfold atEnd
  iintro ⟨#He, ⟨%R, %hR, H⟩⟩
  iapply (Rounds.cell_close ER (Rd m) (Set.mem_univ (K (c, x))) (fun h => h) (R := R) hR)
  isplitr; · iapply (env_inv m K (c, x)); iexact He
  iexact H

theorem close_all :
    iprop(env m K ∗ bigSep Finset.univ fun x : Cell => atEnd m (kcell (c, x)))
      ⊢ (|={Set.univ}=> bigSep Finset.univ fun x : Cell => semVal (kcell (c, x)) 0 : sProp 𝕄) := by
  refine BIBase.Entails.trans ?_ (bigSep_fupd _ _)
  refine (sep_mono_left (BI.bigSep_of_persistent (Finset.univ : Finset Cell) (env m K))).trans ?_
  rw [← bigSep_sep']
  exact bigSep_mono fun x _ => cell_end m c K x

/-- The leaves of the slot of its own activations, together again. -/
theorem leaves_join (X : Blk F) :
    iprop(hold c xgM c (lf 0) X ∗ bigSep Finset.univ fun k : Fin 7 => hold c xgM c (lf k.succ) X) ⊢ (room c xgM c : sProp 𝕄) := by
  refine BIBase.Entails.trans ?_ (hold_room c xgM c X)
  rw [hold_leaves, bigSep_succ fun k => hold c xgM c (lf k) X]

/-- A buffer, together again from its slots at the offsets before. -/
theorem join_bwd (M : Memref sig .tc .vmem S8x256x512 .bf16) :
    iprop(room c M c ∗ (bigSep Finset.univ fun k : Fin 7 => room c M (bwd c k)) ∗ spare c M)
      ⊢ (iprop(∃ f, M.view.loc (c : Thread nD τ) ↦{fullShare} f) : sProp 𝕄) := by
  refine BIBase.Entails.trans ?_ (rooms_join c M)
  rw [bigSep_bwd (P := fun i => room (F := F) c M i) c]
  iintro ⟨H1, H2, H3⟩
  isplitr [H3]
  · isplitl [H1] <;> iassumption
  iexact H3

theorem join_fwd (M : Memref sig .tc .vmem S8x256x512 .bf16) :
    iprop(room c M c ∗ (bigSep Finset.univ fun k : Fin 7 => room c M (fwd c k)) ∗ spare c M)
      ⊢ (iprop(∃ f, M.view.loc (c : Thread nD τ) ↦{fullShare} f) : sProp 𝕄) := by
  refine BIBase.Entails.trans ?_ (rooms_join c M)
  rw [bigSep_fwd (P := fun i => room (F := F) c M i) c]
  iintro ⟨H1, H2, H3⟩
  isplitr [H3]
  · isplitl [H1] <;> iassumption
  iexact H3

end Cert.Exchange
-- ==== Proof.Body.lean ====
/-
# The program of one device

The program of a device `c`, any of the eight, from what it starts with to what it ends with: one step per repetition
of its six groups of operations, and between the groups the regrouping of what it holds.
-/
module

public import proofs.«01_k».proof.Proof.Close
public import proofs.«01_k».proof.Proof.Gen.KernelIdeal.Points

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD) (K : Dev nD × Cell → ℕ)

theorem cfg0_N : cfg0.N = 1 := N_0
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- A staging buffer, whole. -/
abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre : sProp 𝕄 :=
  iprop((env m K ∗ linear c ∗ credits c ∗ scratch c) ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

def bodyPost : sProp 𝕄 :=
  iprop(Φ₁ c ∗ (dats m ρ 0 c).owesAt () t₀.succ ∗ stg c cc0_stg0_0 (xv m c) ∗ stg c cc0_stg1_0 (qv m c) ∗ stg c cc0_stg2_0 (ov m c)
    ∗ stg c cc0_stg3_0 (kv m c) ∗ stg c cc0_stg4_0 (vv m c) ∗ stg c cc0_stg5_0 (outv m c))

/-- At the end nothing is owed. -/
theorem owes_end : owesW c (noOwe c (∅ : Finset (Fin 7))) ⊢ ((dats m ρ 0 c).owesAt () t₀.succ : sProp 𝕄) := by
  unfold owesW Dat.owesAt Pipeline.owesWithin
  iintro ⟨%W, H⟩
  iexists W
  isplitr; · ipureintro; exact fun _ _ => Or.inl trivial
  ihave H := (BIBase.Entails.of_eq (congrArg (fun O => owes (c : Thread nD τ) O W) (show noOwe c (∅ : Finset (Fin 7)) = (dats m ρ 0 c).owed t₀.succ from by
    show owing c ∅ ∅ ∅ = 0
    unfold owing; simp only [Finset.sum_empty, add_zero]))) $$ H
  iexact H

set_option maxHeartbeats 4000000 in
theorem sound_body (Kt : PUnit → sProp 𝕄) :
    iprop(bodyPre m ρ c K ∗ (bodyPost m ρ c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6) Kt := by
  simp only [cc0_body_eq_skeleton, k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton, k0_part11_eq_skeleton,
    k0_part12_eq_skeleton, k0_part13_eq_skeleton, k0_part14_eq_skeleton, k0_part15_eq_skeleton, k0_part16_eq_skeleton, k0_part17_eq_skeleton,
    k0_part18_eq_skeleton, k0_part19_eq_skeleton, k0_part20_eq_skeleton, k0_part21_eq_skeleton, k0_part22_eq_skeleton,
    cc0_body_skel, k0_part1_skel, k0_part2_skel, k0_part3_skel, k0_part4_skel, k0_part5_skel, k0_part6_skel, k0_part7_skel, k0_part8_skel,
    k0_part9_skel, k0_part10_skel, k0_part11_skel, k0_part12_skel, k0_part13_skel, k0_part14_skel, k0_part15_skel, k0_part16_skel, k0_part17_skel,
    k0_part18_skel, k0_part19_skel, k0_part20_skel, k0_part21_skel, k0_part22_skel,
    semSignalWord, semWaitWord, Prog.lift, Prog.bind_op, Prog.bind_ret, Prog.pure_eq_ret, wp_deviceId]
  unfold bodyPre linear payToks credits scratch
  simp only [bigSep_sep']
  rw [cells_split c]
  iintro ⟨⟨⟨#He, ⟨⟨HaB, ⟨HaS0, HaS⟩, ⟨HaR0, HaR⟩, ⟨HpS0, HpS⟩, ⟨HpR0, HpR⟩⟩, ⟨HtB, HtXS, HtXR, HtPS, HtPR⟩⟩, ⟨HcB, HcX, HcP⟩, ⟨Hxg, Has, Har⟩⟩,
    Ho, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩⟩, Hk⟩
  have h0 : g0 = xv m c := by rw [hg0]; unfold Dat.before; rw [if_pos (fetch0_0 t₀)]; rfl
  have h1 : g1 = qv m c := by rw [hg1]; unfold Dat.before; rw [if_pos (fetch0_1 t₀)]; rfl
  have h2 : g2 = ov m c := by rw [hg2]; unfold Dat.before; rw [if_pos (fetch0_2 t₀)]; rfl
  have h3 : g3 = kv m c := by rw [hg3]; unfold Dat.before; rw [if_pos (fetch0_3 t₀)]; rfl
  have h4 : g4 = vv m c := by rw [hg4]; unfold Dat.before; rw [if_pos (fetch0_4 t₀)]; rfl
  subst h0 h1 h2 h3 h4
  clear hg0 hg1 hg2 hg3 hg4 hg5
  ihave Ho := (show (dats m ρ 0 c).owesAt () t₀.castSucc ⊢ owesW c (sigOwe c Finset.univ) from by
    unfold Dat.owesAt Pipeline.owesWithin owesW
    iintro ⟨%W, -, H⟩; iexists W; iexact H) $$ Ho
  -- the buffers as slots
  ihave Hxg := (rooms_split (F := F) c xgM) $$ Hxg
  icases Hxg with ⟨Hxg, Hxgr⟩
  ihave Has := (rooms_split (F := F) c asM) $$ Has
  icases Has with ⟨Has, Hasr⟩
  ihave Har := (rooms_split (F := F) c arM) $$ Har
  icases Har with ⟨Har, Harr⟩
  ihave Hxg := (BIBase.Entails.of_eq (bigSep_fwd (P := fun i => room (F := F) c xgM i) c)) $$ Hxg
  icases Hxg with ⟨Hxgc, Hxg⟩
  ihave Har := (BIBase.Entails.of_eq (bigSep_fwd (P := fun i => room (F := F) c arM i) c)) $$ Har
  icases Har with ⟨Harc, Har⟩
  ihave Has := (BIBase.Entails.of_eq (bigSep_bwd (P := fun i => room (F := F) c asM i) c)) $$ Has
  icases Has with ⟨Hasc, Has⟩
  -- the signals
  ihave Hp := (phase_start c (sigNeed c) (fun _ => iprop(emp)) (sigOwe c)) $$ [HtB Hxg Har Ho]
  · unfold sigNeed
    simp only [bigSep_sep']
    isplitr [Ho]
    · isplitl [HtB]; · iexact HtB
      isplitl [Hxg] <;> iassumption
    iexact Ho
  ihave Hp := (show iprop(env m K ∗ phase c (sigNeed c) (fun _ => iprop(emp)) (sigOwe c) 0) ⊢ _ from .rfl) $$ [Hp]
  · isplitr; · iexact He
    iexact Hp
  iapply (keep m K (sig_step m c K 0 0 rfl _ (Fin.ext (k0_dev1_eq c)) (by decide))) $$ Hp
  iintro Hp
  iapply (keep m K (sig_step m c K 1 1 rfl _ (Fin.ext (k0_dev2_eq c)) (by decide))) $$ Hp
  iintro Hp
  iapply (keep m K (sig_step m c K 2 2 rfl _ (Fin.ext (k0_dev3_eq c)) (by decide))) $$ Hp
  iintro Hp
  iapply (keep m K (sig_step m c K 3 3 rfl _ (Fin.ext (k0_dev4_eq c)) (by decide))) $$ Hp
  iintro Hp
  iapply (keep m K (sig_step m c K 4 4 rfl _ (Fin.ext (k0_dev5_eq c)) (by decide))) $$ Hp
  iintro Hp
  iapply (keep m K (sig_step m c K 5 5 rfl _ (Fin.ext (k0_dev6_eq c)) (by decide))) $$ Hp
  iintro Hp
  iapply (keep m K (sig_step m c K 6 6 rfl _ (Fin.ext (k0_dev7_eq c)) (by decide))) $$ Hp
  iintro Hp
  icases Hp with ⟨-, Hp⟩
  ihave Hp := (phase_end c (sigNeed c) (fun _ => iprop(emp)) (sigOwe c)) $$ Hp
  icases Hp with ⟨-, Ho⟩
  -- the barrier
  iapply (barrier_step m K c (by decide) Finset.univ Finset.univ) $$ [HcB HaB Ho]
  · isplitr; · iexact He
    isplitr [Ho]
    · isplitl [HcB] <;> iassumption
    iexact Ho
  iintro ⟨⟨HaB, Hb⟩, Ho⟩
  unfold barPay
  ihave Hb := (BIBase.Entails.of_eq (bigSep_sep' Finset.univ (fun d : Fin 7 => room (F := F) (bwd c d) xgM c) (fun d : Fin 7 => room (F := F) (bwd c d) arM c))) $$ Hb
  icases Hb with ⟨Hbx, Hba⟩
  ihave Hbx := (BIBase.Entails.of_eq (rooms_rev c)) $$ Hbx
  -- its own activations
  iapply (load_whole c _ (Memref.readAt_unit_zero (Elt F) cc0_stg0_0 z3 _ _)) $$ H0
  iintro H0
  icases Hxgc with ⟨%X₀, Hxgc⟩
  iapply (load_step c c fullShare X₀ (k0_off1_eq c)) $$ Hxgc
  iintro Hxgc
  ihave Hxgc := (hold_room c xgM c X₀) $$ Hxgc
  iapply (store_step c c (xb m c) (k0_off1_eq c)) $$ Hxgc
  iintro Hxgc
  -- the copies of the activations
  ihave Hxgc := (BIBase.Entails.of_eq (hold_leaves c xgM c (xb m c))) $$ Hxgc
  ihave Hxgc := (BIBase.Entails.of_eq (bigSep_succ (fun k => hold c xgM c (lf k) (xb m c)))) $$ Hxgc
  icases Hxgc with ⟨Hx0, Hxl⟩
  ihave Hp := (phase_start c (xsNeed m c) (xsLeave c) (xsOwe c)) $$ [HtXS HtXR Hxl Hbx Ho]
  · unfold xsNeed
    simp only [bigSep_sep']
    isplitr [Ho]
    · isplitl [HtXS]; · iexact HtXS
      isplitl [HtXR]; · iexact HtXR
      isplitl [Hxl] <;> iassumption
    iexact Ho
  ihave Hp := (show iprop(env m K ∗ phase c (xsNeed m c) (xsLeave c) (xsOwe c) 0) ⊢ _ from .rfl) $$ [Hp]
  · isplitr; · iexact He
    iexact Hp
  iapply (keep m K (xs_step m c K 0 0 rfl (Fin.ext (k0_dev8_eq c)) (sem_xs 1 rfl _) (sem_xr c (k0_off2_eq c) _) (k0_off3_eq c))) $$ Hp
  iintro Hp
  iapply (keep m K (xs_step m c K 1 1 rfl (Fin.ext (k0_dev9_eq c)) (sem_xs 2 rfl _) (sem_xr c (k0_off2_eq c) _) (k0_off3_eq c))) $$ Hp
  iintro Hp
  iapply (keep m K (xs_step m c K 2 2 rfl (Fin.ext (k0_dev10_eq c)) (sem_xs 3 rfl _) (sem_xr c (k0_off2_eq c) _) (k0_off3_eq c))) $$ Hp
  iintro Hp
  iapply (keep m K (xs_step m c K 3 3 rfl (Fin.ext (k0_dev11_eq c)) (sem_xs 4 rfl _) (sem_xr c (k0_off2_eq c) _) (k0_off3_eq c))) $$ Hp
  iintro Hp
  iapply (keep m K (xs_step m c K 4 4 rfl (Fin.ext (k0_dev12_eq c)) (sem_xs 5 rfl _) (sem_xr c (k0_off2_eq c) _) (k0_off3_eq c))) $$ Hp
  iintro Hp
  iapply (keep m K (xs_step m c K 5 5 rfl (Fin.ext (k0_dev13_eq c)) (sem_xs 6 rfl _) (sem_xr c (k0_off2_eq c) _) (k0_off3_eq c))) $$ Hp
  iintro Hp
  iapply (keep m K (xs_step m c K 6 6 rfl (Fin.ext (k0_dev14_eq c)) (sem_xs 7 rfl _) (sem_xr c (k0_off2_eq c) _) (k0_off3_eq c))) $$ Hp
  iintro Hp
  icases Hp with ⟨-, Hp⟩
  ihave Hp := (phase_end c (xsNeed m c) (xsLeave c) (xsOwe c)) $$ Hp
  icases Hp with ⟨HcXS, Ho⟩
  -- the weights, and its own part
  iapply (load_whole c _ (Memref.readAt_unit_zero (Elt F) cc0_stg1_0 z2 _ _)) $$ H1
  iintro H1
  iapply (load_whole c _ (Memref.readAt_unit_zero (Elt F) cc0_stg3_0 z2 _ _)) $$ H3
  iintro H3
  iapply (load_whole c _ (Memref.readAt_unit_zero (Elt F) cc0_stg4_0 z2 _ _)) $$ H4
  iintro H4
  iapply (load_whole c _ (Memref.readAt_unit_zero (Elt F) cc0_stg2_0 z2 _ _)) $$ H2
  iintro H2
  iapply (load_step c c (lf 0) (xb m c) (k0_off1_eq c)) $$ Hx0
  iintro Hx0
  -- the partials
  ihave Hp := (phase_start c (ptNeed c) (ptLeave m c) (ptOwe c)) $$ [HcX HaR HtPS HtPR Has Hba Ho]
  · unfold ptNeed
    simp only [bigSep_sep']
    isplitr [Ho]
    · isplitl [HcX HaR]
      · isplitl [HcX] <;> iassumption
      isplitl [HtPS]; · iexact HtPS
      isplitl [HtPR]; · iexact HtPR
      isplitl [Has] <;> iassumption
    iexact Ho
  ihave Hp := (show iprop(env m K ∗ phase c (ptNeed c) (ptLeave m c) (ptOwe c) 0) ⊢ _ from .rfl) $$ [Hp]
  · isplitr; · iexact He
    iexact Hp
  iapply (keep m K (pt_step m c K 0 0 rfl (dev_eq (k0_dev15_eq c)) (sem_xr (bwd c 0) (k0_off4_eq c 0) _) (sem_ps 1 rfl _) (sem_pr c (k0_off2_eq c) _)
    (k0_off5_eq c 0) (k0_off6_eq c 0) (k0_off3_eq c)
    (fun X => k0_pay16 (k0_pay5 (ov m c)) (k0_pay12 (k0_pay4 (vv m c)) X) (k0_pay14 (k0_pay2 (qv m c)) (k0_pay3 (kv m c)) X) (k0_pay15 (k0_pay2 (qv m c)) (k0_pay3 (kv m c)) X) (constant S16x128x64 FTy.f32 0#32)) (fun _ => rfl))) $$ Hp
  iintro Hp
  iapply (keep m K (pt_step m c K 1 1 rfl (dev_eq (k0_dev16_eq c)) (sem_xr (bwd c 1) (k0_off4_eq c 1) _) (sem_ps 2 rfl _) (sem_pr c (k0_off2_eq c) _)
    (k0_off5_eq c 1) (k0_off6_eq c 1) (k0_off3_eq c)
    (fun X => k0_pay17 (k0_pay2 (qv m c)) (k0_pay3 (kv m c)) (k0_pay4 (vv m c)) (k0_pay5 (ov m c)) X) (fun _ => rfl))) $$ Hp
  iintro Hp
  iapply (keep m K (pt_step m c K 2 2 rfl (dev_eq (k0_dev17_eq c)) (sem_xr (bwd c 2) (k0_off4_eq c 2) _) (sem_ps 3 rfl _) (sem_pr c (k0_off2_eq c) _)
    (k0_off5_eq c 2) (k0_off6_eq c 2) (k0_off3_eq c)
    (fun X => k0_pay22 (k0_pay5 (ov m c)) (k0_pay20 (k0_pay2 (qv m c)) (k0_pay3 (kv m c)) (k0_pay4 (vv m c)) X) (k0_pay21 (k0_pay2 (qv m c)) (k0_pay3 (kv m c)) X)) (fun _ => rfl))) $$ Hp
  iintro Hp
  iapply (keep m K (pt_step m c K 3 3 rfl (dev_eq (k0_dev18_eq c)) (sem_xr (bwd c 3) (k0_off4_eq c 3) _) (sem_ps 4 rfl _) (sem_pr c (k0_off2_eq c) _)
    (k0_off5_eq c 3) (k0_off6_eq c 3) (k0_off3_eq c)
    (fun X => k0_pay23 (k0_pay2 (qv m c)) (k0_pay3 (kv m c)) (k0_pay4 (vv m c)) (k0_pay5 (ov m c)) X) (fun _ => rfl))) $$ Hp
  iintro Hp
  iapply (keep m K (pt_step m c K 4 4 rfl (dev_eq (k0_dev19_eq c)) (sem_xr (bwd c 4) (k0_off4_eq c 4) _) (sem_ps 5 rfl _) (sem_pr c (k0_off2_eq c) _)
    (k0_off5_eq c 4) (k0_off6_eq c 4) (k0_off3_eq c)
    (fun X => k0_pay25 (k0_pay5 (ov m c)) (k0_pay24 (k0_pay2 (qv m c)) (k0_pay3 (kv m c)) (k0_pay4 (vv m c)) X)) (fun _ => rfl))) $$ Hp
  iintro Hp
  iapply (keep m K (pt_step m c K 5 5 rfl (dev_eq (k0_dev20_eq c)) (sem_xr (bwd c 5) (k0_off4_eq c 5) _) (sem_ps 6 rfl _) (sem_pr c (k0_off2_eq c) _)
    (k0_off5_eq c 5) (k0_off6_eq c 5) (k0_off3_eq c)
    (fun X => k0_pay27 (k0_pay2 (qv m c)) (k0_pay3 (kv m c)) (k0_pay4 (vv m c)) (k0_pay5 (ov m c)) (k0_pay26 X) (constant S256x512 FTy.f32 0#32)) (fun _ => rfl))) $$ Hp
  iintro Hp
  iapply (keep m K (pt_step m c K 6 6 rfl (dev_eq (k0_dev21_eq c)) (sem_xr (bwd c 6) (k0_off4_eq c 6) _) (sem_ps 7 rfl _) (sem_pr c (k0_off2_eq c) _)
    (k0_off5_eq c 6) (k0_off6_eq c 6) (k0_off3_eq c)
    (fun X => k0_pay29 (k0_pay5 (ov m c)) (k0_pay28 (k0_pay2 (qv m c)) (k0_pay3 (kv m c)) (k0_pay4 (vv m c)) X)) (fun _ => rfl))) $$ Hp
  iintro Hp
  icases Hp with ⟨-, Hp⟩
  ihave Hp := (phase_end c (ptNeed c) (ptLeave m c) (ptOwe c)) $$ Hp
  icases Hp with ⟨Hpt, Ho⟩
  unfold ptLeave
  ihave Hpt := (BIBase.Entails.of_eq (bigSep_sep' Finset.univ (fun k : Fin 7 => atPos ER (cell 1 c (bwd c k)) 1 ∅ 0)
    (fun k : Fin 7 => iprop(hold c xgM (bwd c k) fullShare (xb m (bwd c k)) ∗ cred (tallyAt (cell 2 c k.succ) () N))))) $$ Hpt
  icases Hpt with ⟨HaR, Hpt⟩
  ihave Hpt := (BIBase.Entails.of_eq (bigSep_sep' Finset.univ (fun k : Fin 7 => hold c xgM (bwd c k) fullShare (xb m (bwd c k)))
    (fun k : Fin 7 => cred (tallyAt (cell 2 c k.succ) () N)))) $$ Hpt
  icases Hpt with ⟨Hxg, HcPS⟩
  -- the arrivals of the partials
  ihave Hp := (phase_start c (arNeed c) (arLeave m c) (noOwe c)) $$ [HcP HpR Ho]
  · unfold arNeed
    simp only [bigSep_sep']
    isplitr [Ho]
    · isplitl [HcP] <;> iassumption
    iexact Ho
  ihave Hp := (show iprop(env m K ∗ phase c (arNeed c) (arLeave m c) (noOwe c) 0) ⊢ _ from .rfl) $$ [Hp]
  · isplitr; · iexact He
    iexact Hp
  iapply (keep m K (ar_step m c K 0 0 rfl (sem_pr (fwd c 0) (k0_off7_eq c 0) _) (k0_off9_eq c 0))) $$ Hp
  iintro Hp
  iapply (keep m K (ar_step m c K 1 1 rfl (sem_pr (fwd c 1) (k0_off7_eq c 1) _) (k0_off9_eq c 1))) $$ Hp
  iintro Hp
  iapply (keep m K (ar_step m c K 2 2 rfl (sem_pr (fwd c 2) (k0_off7_eq c 2) _) (k0_off9_eq c 2))) $$ Hp
  iintro Hp
  iapply (keep m K (ar_step m c K 3 3 rfl (sem_pr (fwd c 3) (k0_off7_eq c 3) _) (k0_off9_eq c 3))) $$ Hp
  iintro Hp
  iapply (keep m K (ar_step m c K 4 4 rfl (sem_pr (fwd c 4) (k0_off7_eq c 4) _) (k0_off9_eq c 4))) $$ Hp
  iintro Hp
  iapply (keep m K (ar_step m c K 5 5 rfl (sem_pr (fwd c 5) (k0_off7_eq c 5) _) (k0_off9_eq c 5))) $$ Hp
  iintro Hp
  iapply (keep m K (ar_step m c K 6 6 rfl (sem_pr (fwd c 6) (k0_off7_eq c 6) _) (k0_off9_eq c 6))) $$ Hp
  iintro Hp
  icases Hp with ⟨-, Hp⟩
  ihave Hp := (phase_end c (arNeed c) (arLeave m c) (noOwe c)) $$ Hp
  icases Hp with ⟨Har, Ho⟩
  -- the result
  iapply (load_whole c _ (Memref.readAt_unit_zero (Elt F) cc0_stg5_0 z3 _ _)) $$ H5
  iintro H5
  iapply (store_whole c (outv m c) (Memref.write_access_unit_zero_univ (Elt F) cc0_stg5_0 z3 _ _ (outv m c))) $$ H5
  iintro H5
  -- the ends of the copies
  ihave Hp := (phase_start c (xeNeed c) (xeLeave m c) (noOwe c)) $$ [HcXS HaS Ho]
  · unfold xeNeed xsLeave
    simp only [bigSep_sep']
    isplitr [Ho]
    · isplitl [HcXS] <;> iassumption
    iexact Ho
  ihave Hp := (show iprop(env m K ∗ phase c (xeNeed c) (xeLeave m c) (noOwe c) 0) ⊢ _ from .rfl) $$ [Hp]
  · isplitr; · iexact He
    iexact Hp
  iapply (keep m K (xe_step m c K 0 0 rfl (sem_xs 1 rfl _))) $$ Hp
  iintro Hp
  iapply (keep m K (xe_step m c K 1 1 rfl (sem_xs 2 rfl _))) $$ Hp
  iintro Hp
  iapply (keep m K (xe_step m c K 2 2 rfl (sem_xs 3 rfl _))) $$ Hp
  iintro Hp
  iapply (keep m K (xe_step m c K 3 3 rfl (sem_xs 4 rfl _))) $$ Hp
  iintro Hp
  iapply (keep m K (xe_step m c K 4 4 rfl (sem_xs 5 rfl _))) $$ Hp
  iintro Hp
  iapply (keep m K (xe_step m c K 5 5 rfl (sem_xs 6 rfl _))) $$ Hp
  iintro Hp
  iapply (keep m K (xe_step m c K 6 6 rfl (sem_xs 7 rfl _))) $$ Hp
  iintro Hp
  icases Hp with ⟨-, Hp⟩
  ihave Hp := (phase_end c (xeNeed c) (xeLeave m c) (noOwe c)) $$ Hp
  icases Hp with ⟨Hxe, Ho⟩
  ihave Hp := (phase_start c (peNeed c) (peLeave c) (noOwe c)) $$ [HcPS HpS Ho]
  · unfold peNeed
    simp only [bigSep_sep']
    isplitr [Ho]
    · isplitl [HcPS] <;> iassumption
    iexact Ho
  ihave Hp := (show iprop(env m K ∗ phase c (peNeed c) (peLeave c) (noOwe c) 0) ⊢ _ from .rfl) $$ [Hp]
  · isplitr; · iexact He
    iexact Hp
  iapply (keep m K (pe_step m c K 0 0 rfl (sem_ps 1 rfl _))) $$ Hp
  iintro Hp
  iapply (keep m K (pe_step m c K 1 1 rfl (sem_ps 2 rfl _))) $$ Hp
  iintro Hp
  iapply (keep m K (pe_step m c K 2 2 rfl (sem_ps 3 rfl _))) $$ Hp
  iintro Hp
  iapply (keep m K (pe_step m c K 3 3 rfl (sem_ps 4 rfl _))) $$ Hp
  iintro Hp
  iapply (keep m K (pe_step m c K 4 4 rfl (sem_ps 5 rfl _))) $$ Hp
  iintro Hp
  iapply (keep m K (pe_step m c K 5 5 rfl (sem_ps 6 rfl _))) $$ Hp
  iintro Hp
  iapply (keep m K (pe_step m c K 6 6 rfl (sem_ps 7 rfl _))) $$ Hp
  iintro Hp
  icases Hp with ⟨-, Hp⟩
  ihave Hp := (phase_end c (peNeed c) (peLeave c) (noOwe c)) $$ Hp
  icases Hp with ⟨Hpe, Ho⟩
  -- every cell closes
  unfold arLeave xeLeave peLeave
  ihave Har := (BIBase.Entails.of_eq (bigSep_sep' Finset.univ (fun k : Fin 7 => atPos ER (cell 3 c (fwd c k)) 1 ∅ 0)
    (fun k : Fin 7 => hold c arM (fwd c k) fullShare (part m (fwd c k) (xb m c))))) $$ Har
  icases Har with ⟨HpR, Har⟩
  ihave Hxe := (BIBase.Entails.of_eq (bigSep_sep' Finset.univ (fun k : Fin 7 => atPos ER (cell 0 c k.succ) 1 ∅ 0)
    (fun k : Fin 7 => hold c xgM c (lf k.succ) (xb m c)))) $$ Hxe
  icases Hxe with ⟨HaS, Hxl⟩
  ihave Hpe := (BIBase.Entails.of_eq (bigSep_sep' Finset.univ (fun k : Fin 7 => atPos ER (cell 2 c k.succ) 1 ∅ 0)
    (fun k : Fin 7 => room (F := F) c asM (bwd c k)))) $$ Hpe
  icases Hpe with ⟨HpS, Has⟩
  ihave Hend := (cells_end (F := F) m c) $$ [HaB HaS0 HaS HaR0 HaR HpS0 HpS HpR0 HpR]
  · isplitl [HaB]; · iexact HaB
    isplitl [HaS0 HaS]; · isplitl [HaS0] <;> iassumption
    isplitl [HaR0 HaR]; · isplitl [HaR0] <;> iassumption
    isplitl [HpS0 HpS]; · isplitl [HpS0] <;> iassumption
    isplitl [HpR0] <;> iassumption
  imod (close_all m c K) $$ [Hend] with Hz
  · isplitr; · iexact He
    iexact Hend
  -- the buffers, whole
  ihave Hxgc := (leaves_join c (xb m c)) $$ [Hx0 Hxl]
  · isplitl [Hx0] <;> iassumption
  ihave Hxg := (show (bigSep Finset.univ fun k : Fin 7 => hold c xgM (bwd c k) fullShare (xb m (bwd c k))) ⊢ bigSep Finset.univ fun k : Fin 7 => room (F := F) c xgM (bwd c k)
    from bigSep_mono fun k _ => hold_room c xgM (bwd c k) _) $$ Hxg
  ihave Har := (show (bigSep Finset.univ fun k : Fin 7 => hold c arM (fwd c k) fullShare (part m (fwd c k) (xb m c))) ⊢ bigSep Finset.univ fun k : Fin 7 => room (F := F) c arM (fwd c k)
    from bigSep_mono fun k _ => hold_room c arM (fwd c k) _) $$ Har
  ihave Hxg := (join_bwd (F := F) c xgM) $$ [Hxgc Hxg Hxgr]
  · isplitl [Hxgc]; · iexact Hxgc
    isplitl [Hxg] <;> iassumption
  ihave Has := (join_bwd (F := F) c asM) $$ [Hasc Has Hasr]
  · isplitl [Hasc]; · iexact Hasc
    isplitl [Has] <;> iassumption
  ihave Har := (join_fwd (F := F) c arM) $$ [Harc Har Harr]
  · isplitl [Harc]; · iexact Harc
    isplitl [Har] <;> iassumption
  rw [wp_ret]
  imodintro
  iapply Hk
  unfold bodyPost Φ₁ scratch
  isplitl [Hxg Has Har Hz]
  · isplitl [Hxg Has Har]
    · isplitl [Hxg]; · iexact Hxg
      isplitl [Has] <;> iassumption
    iexact Hz
  isplitl [Ho]
  · iapply (owes_end m ρ c) $$ Ho
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  isplitl [H4]; · iexists _; isplitr; · (ipureintro; rfl)
                  iexact H4
  iexists _; isplitr; · (ipureintro; rfl)
  iexact H5

end Cert.Exchange
-- ==== Proof.Run.lean ====
/-
# The run of all devices

From every device's memory with all counters at zero, the eight programs end with every device's result at its computed
contents, the arguments as they were and every counter at zero: the cells are set up, the tokens dealt to the devices
that pay with them, and the launch discharged.
-/
module

public import proofs.«01_k».proof.Proof.Body
public import proofs.«01_k».proof.Proof.Gen.KernelIdeal.Launch
public import Idealize.ShloMosaic.Lib.Pipeline.Launch
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body, as the pipeline asks for it -/

set_option maxRecDepth 4000 in
/-- Before the one grid point: the device's resources and its six staging buffers. -/
def atPoint (c : Dev nD) : sProp 𝕄 :=
  iprop(Φ₀ m c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

set_option maxRecDepth 20000 in
theorem body_obligation (c : Dev nD) : BodyObligation (dats (F := F) m ρ 0 c) (defs₀ (F := F)) 𝒱₀ () Set.univ := fun t => by
  rw [fin_N t]
  rw [bigSep_W0, bigSep_W0]
  simp only [owns_whole_eq]
  show atPoint m ρ c ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6) (fun _ => bodyPost m ρ c)
  unfold atPoint Φ₀ start ghost
  iintro ⟨⟨⟨⟨%K, He, Hl⟩, Hc⟩, Hs⟩, Hrest⟩
  iapply (sound_body m ρ c K fun _ => bodyPost m ρ c)
  unfold bodyPre
  isplitl
  · isplitr [Hrest]
    · isplitl [He]; · iexact He
      isplitl [Hl]; · iexact Hl
      isplitl [Hc] <;> iassumption
    iexact Hrest
  · iintro H; iexact H

/-! ## Cells and tokens -/

/-- The kernel's own semaphores. -/
abbrev osem (x : Fin 4 × Fin 8) : SemLoc sig := .dma (dsem x.1 x.2)
theorem ownSemFacts : Pipeline.OwnSemFacts cfg0.spec osem := by decide +kernel

theorem share_eq (c : Dev nD) (w : Fin cfg0.W) : (dats m ρ 0 c).share w = fullShare := by unfold Dat.share; split <;> rfl

theorem kcell_snd : ∀ x y : Cell, ((kcell (0, x)).2 = (kcell (0, y)).2) → x = y := by decide +kernel
theorem kcell_injective : Function.Injective (kcell : Dev nD × Cell → GSem nD τ sig) := by
  have hd (c : Dev nD) (x : Cell) : (kcell (c, x)).1.1 = c := by cases x <;> rfl
  have hs (c : Dev nD) (x : Cell) : (kcell (c, x)).2 = (kcell (0, x)).2 := by cases x <;> rfl
  rintro ⟨c, x⟩ ⟨d, y⟩ h
  have h₁ : c = d := by have := congrArg (fun g : GSem nD τ sig => g.1.1) h; simpa only [hd] using this
  have h₂ : x = y := kcell_snd x y (by have := congrArg Prod.snd h; rwa [hs c, hs d] at this)
  rw [h₁, h₂]
def allCells : Finset (GSem nD τ sig) := Finset.univ.map ⟨kcell, kcell_injective⟩

/-- The duties of a device's own cells at one offset: of the barrier, of the end and the arrival of a copy of
    activations, of the end and the arrival of a copy of a partial. -/
abbrev duty (x : Dev nD × Fin 7 × Fin 5) : GSem nD τ sig × ℕ × D := match x.2.2 with
  | 0 => (bar x.1, 0, x.2.1)
  | 1 => (cell 0 x.1 x.2.1.succ, 0, 0)
  | 2 => (cell 1 x.1 (bwd x.1 x.2.1), 0, 0)
  | 3 => (cell 2 x.1 x.2.1.succ, 0, 0)
  | 4 => (cell 3 x.1 (fwd x.1 x.2.1), 0, 0)

/-- Which duty it is, read off its semaphore. -/
def kind (g : GSem nD τ sig × ℕ × D) : ℕ := match g.1.2 with
  | .reg _ => 0
  | .dma s => (famOf s).val + 1
/-- Its entry. -/
def entry (g : GSem nD τ sig × ℕ × D) : Fin 8 := match g.1.2 with
  | .reg _ => g.2.2.succ
  | .dma s => idxOf s
theorem kind_duty : ∀ (j : Fin 5) (c : Dev nD) (k : Fin 7), kind (duty (c, k, j)) = j.val := by
  intro j c k
  fin_cases j
  · rfl
  all_goals (show (famOf (dsem _ _)).val + 1 = _; rw [famOf_dsem]; rfl)
theorem entry_duty (j : Fin 5) (c : Dev nD) (k k' : Fin 7) (h : entry (duty (c, k, j)) = entry (duty (c, k', j))) : k = k' := by
  fin_cases j
  · exact Fin.succ_injective _ h
  all_goals (revert h; show idxOf (dsem _ _) = idxOf (dsem _ _) → _; rw [idxOf_dsem, idxOf_dsem])
  · exact fun h => Fin.succ_injective _ h
  · exact bwd_inj c k k'
  · exact fun h => Fin.succ_injective _ h
  · exact fwd_inj c k k'
theorem duty_injective : Function.Injective (duty : Dev nD × Fin 7 × Fin 5 → GSem nD τ sig × ℕ × D) := by
  have hd (x : Dev nD × Fin 7 × Fin 5) : (duty x).1.1.1 = x.1 := by
    obtain ⟨c, k, j⟩ := x; fin_cases j <;> rfl
  rintro ⟨c, k, j⟩ ⟨c', k', j'⟩ h
  have h₁ : c = c' := by have := congrArg (fun g : GSem nD τ sig × ℕ × D => g.1.1.1) h; simpa only [hd] using this
  subst h₁
  have h₂ : j = j' := by have := congrArg kind h; rw [kind_duty, kind_duty] at this; exact Fin.ext this
  subst h₂
  rw [entry_duty j c k k' (congrArg entry h)]
def allDuties : Finset (GSem nD τ sig × ℕ × D) := Finset.univ.map ⟨duty, duty_injective⟩

def u₀ : UU := (initOf (Pipeline.cells cfgs cellOf_inj) (Pipeline.launchToks cfgs cellOf_inj), initOf allCells allDuties)

/-- The tokens of a device's own cells. -/
def toks (c : Dev nD) : sProp 𝕄 :=
  bigSep Finset.univ fun k : Fin 7 => iprop(dutyTok ER (bar c) 0 k
    ∗ dutyTok ER (cell 0 c k.succ) 0 0 ∗ dutyTok ER (cell 1 c (bwd c k)) 0 0
    ∗ dutyTok ER (cell 2 c k.succ) 0 0 ∗ dutyTok ER (cell 3 c (fwd c k)) 0 0)

/-- What the launch deals a device: its cells' first rounds, its positions, its cells' tokens. -/
def G (c : Dev nD) : sProp 𝕄 :=
  iprop((bigSep Finset.univ fun x : Cell => roundState ER (Rd m) (kcell (c, x)) 0)
    ∗ (bigSep Finset.univ fun x : Cell => iprop(atPos ER (kcell (c, x)) 0 ∅ 0 ∗ reached ER (kcell (c, x)) 0)) ∗ toks c)

/-- What all devices may use, at names `K`. -/
def records (K : Dev nD × Cell → ℕ) : sProp 𝕄 :=
  iprop((bigSep Finset.univ fun ck : Dev nD × Cell => cellInv ER (Rd m) (K ck) (kcell ck))
    ∗ bigSep Finset.univ fun ck : Dev nD × Cell => reached ER (kcell ck) 0)

instance records_persistent (K : Dev nD × Cell → ℕ) : BI.Persistent (records m K) := by unfold records; infer_instance

/-- What a device has once the cells are set up and the tokens dealt. -/
def G' (c : Dev nD) : sProp 𝕄 := iprop(∃ K, records m K ∗ linear c)

theorem fund : BI.own (ER (initOf allCells allDuties)) ⊢ (|==> bigSep Finset.univ (G m) : sProp 𝕄) := by
  have hX (Φ : GSem nD τ sig → sProp 𝕄) : bigSep allCells Φ = bigSep Finset.univ fun c : Dev nD => bigSep Finset.univ fun x : Cell => Φ (kcell (c, x)) := by
    unfold allCells; rw [bigSep_map, bigSep_univ_prod]; rfl
  have h5 (Φ : Fin 5 → sProp 𝕄) : bigSep Finset.univ Φ = iprop(Φ 0 ∗ Φ 1 ∗ Φ 2 ∗ Φ 3 ∗ Φ 4) :=
    bigSep_univ_eq_bigSepL [0, 1, 2, 3, 4] (by decide) (by decide) Φ
  have hT : bigSep allDuties (fun x => (dutyTok ER x.1 x.2.1 x.2.2 : sProp 𝕄)) = bigSep Finset.univ fun c : Dev nD => toks c := by
    unfold allDuties; rw [bigSep_map, bigSep_univ_prod]
    refine bigSep_congr fun c _ => ?_
    rw [bigSep_univ_prod]
    unfold toks
    exact bigSep_congr fun k _ => by rw [h5]; rfl
  iintro HX
  imod (Rounds.fund ER (Rd m) allCells allDuties) $$ HX with ⟨Hst, Hr, Hat, Htok⟩
  imodintro
  ihave Hst := (BIBase.Entails.of_eq (hX fun g => roundState ER (Rd m) g 0)) $$ Hst
  ihave Hat := (BIBase.Entails.of_eq (hX fun g => atPos ER g 0 ∅ 0)) $$ Hat
  ihave Hr := (BIBase.Entails.of_eq (hX fun g => reached ER g 0)) $$ Hr
  ihave Htok := (BIBase.Entails.of_eq hT) $$ Htok
  unfold G; simp only [bigSep_sep']
  isplitl [Hst]; · iexact Hst
  isplitl [Hat Hr]
  · isplitl [Hat] <;> iassumption
  iexact Htok

/-! ## The cells set up -/

/-- A device's counters: the barrier's, which no kernel scopes, and the kernel's own. -/
theorem sems_eq (c : Dev nD) :
    iprop(unscopedSems0 c ∗ Pipeline.ownSems0 (Ix := Unit) (Name := ℕ) (U := UU) (Lvl := ℕ) (Val := Elt F) (τ := τ) osem c)
      = (bigSep Finset.univ fun x : Cell => semVal (kcell (c, x)) 0 : sProp 𝕄) := by
  rw [show (Finset.univ : Finset Cell) = insert none (Finset.univ.map Function.Embedding.some) from by decide, bigSep_put (by decide), bigSep_map]
  unfold unscopedSems0
  rw [bigSep_eq_bigSepL_of_eq [SemLoc.reg barS] (by decide) (by decide)]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x : Cell => iprop(∃ κ : ℕ, cellInv ER (Rd m) κ (kcell (c, x))))
          ∗ (bigSep Finset.univ fun x : Cell => iprop(atPos ER (kcell (c, x)) 0 ∅ 0 ∗ reached ER (kcell (c, x)) 0)) ∗ toks c) := by
  unfold G
  iintro ⟨Hos, Hus, Hst, Hat, Htok⟩
  ihave Hv := (BIBase.Entails.of_eq (sems_eq (F := F) c)) $$ [Hos Hus]
  · isplitl [Hus] <;> iassumption
  imod (show iprop((bigSep Finset.univ fun x : Cell => semVal (kcell (c, x)) 0) ∗ bigSep Finset.univ fun x : Cell => roundState ER (Rd m) (kcell (c, x)) 0)
      ⊢ (|={Set.univ}=> bigSep Finset.univ fun x : Cell => iprop(∃ κ : ℕ, cellInv ER (Rd m) κ (kcell (c, x))) : sProp 𝕄) from by
        rw [← bigSep_sep']
        exact (bigSep_mono fun x _ => (Rounds.body_intro ER (Rd m) (kcell (c, x))).trans inv_alloc).trans (bigSep_fupd _ _)) $$ [Hv Hst] with Hinv
  · isplitl [Hv] <;> iassumption
  imodintro
  isplitl [Hinv]; · iexact Hinv
  isplitl [Hat]; · iexact Hat
  iexact Htok

theorem swap (P : Dev nD → Fin 7 → sProp 𝕄) :
    (bigSep Finset.univ fun c => bigSep Finset.univ fun k => P c k) = bigSep Finset.univ fun k => bigSep Finset.univ fun c => P c k := by
  rw [← bigSep_univ_prod (fun ck : Dev nD × Fin 7 => P ck.1 ck.2), bigSep_univ_equiv (Equiv.prodComm (Fin 7) (Dev nD)), bigSep_univ_prod]
  rfl

/-- What every device has at every offset, counted at the device the offset leads to. -/
theorem around (P : Dev nD → Fin 7 → sProp 𝕄) :
    (bigSep Finset.univ fun c => bigSep Finset.univ fun k => P c k) = bigSep Finset.univ fun c => bigSep Finset.univ fun k => P (fwd c k) k := by
  rw [swap P, swap fun c k => P (fwd c k) k]
  exact bigSep_congr fun k _ => bigSep_univ_equiv (shift k) fun c => P c k
theorem around_back (P : Dev nD → Fin 7 → sProp 𝕄) :
    (bigSep Finset.univ fun c => bigSep Finset.univ fun k => P c k) = bigSep Finset.univ fun c => bigSep Finset.univ fun k => P (bwd c k) k := by
  rw [swap P, swap fun c k => P (bwd c k) k]
  exact bigSep_congr fun k _ => bigSep_univ_equiv (shift k).symm fun c => P c k

/-- The tokens, each with the device that pays with it. -/
theorem toks_dealt : (bigSep Finset.univ fun c : Dev nD => (toks c : sProp 𝕄)) = bigSep Finset.univ fun c : Dev nD => payToks c := by
  unfold toks payToks
  simp only [bigSep_sep']
  rw [around fun c k => dutyTok ER (bar c) 0 k, around fun c k => dutyTok ER (cell 1 c (bwd c k)) 0 0, around_back fun c k => dutyTok ER (cell 3 c (fwd c k)) 0 0]
  simp only [bwd_fwd, fwd_bwd]

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun x : Cell => iprop(∃ κ : ℕ, cellInv ER (Rd m) κ (kcell (c, x))))
          ∗ (bigSep Finset.univ fun x : Cell => iprop(atPos ER (kcell (c, x)) 0 ∅ 0 ∗ reached ER (kcell (c, x)) 0)) ∗ toks c) : sProp 𝕄)
      ⊢ bigSep Finset.univ (G' m) := by
  simp only [bigSep_sep']
  rw [← bigSep_univ_prod (fun ck : Dev nD × Cell => iprop(∃ κ : ℕ, cellInv ER (Rd m) κ (kcell ck))),
    ← bigSep_univ_prod (fun ck : Dev nD × Cell => (reached ER (kcell ck) 0 : sProp 𝕄)), toks_dealt]
  iintro ⟨HI, ⟨Hat, #HR⟩, Htok⟩
  ihave HK := (BI.bigSep_exists_pi Finset.univ (fun (ck : Dev nD × Cell) (κ : ℕ) => (cellInv ER (Rd m) κ (kcell ck) : sProp 𝕄))) $$ HI
  icases HK with ⟨%K, #HI⟩
  iapply (with_persistent (R := records m K) (Φ := fun c => linear c) fun c _ => show iprop(records m K ∗ linear c) ⊢ G' m c from by
    unfold G'; iintro H; iexists K; iexact H)
  isplitr
  · unfold records
    isplitr; · iexact HI
    iexact HR
  unfold linear
  simp only [bigSep_sep']
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What a device is owed -/

/-- What all others owe device `c`. -/
def owed (c : Dev nD) : CellTallies nD τ sig Unit :=
  tallyAt (bar c) () 7 + (∑ k : Fin 7, tallyAt (cell 1 c (bwd c k)) () N + ∑ k : Fin 7, tallyAt (cell 3 c (fwd c k)) () N)

theorem sum_around {A : Type} [AddCommMonoid A] (T : Dev nD → Fin 7 → A) : ∑ c, ∑ k, T (fwd c k) k = ∑ c, ∑ k, T c k := by
  rw [Finset.sum_comm, Finset.sum_comm (f := fun c k => T c k)]
  exact Finset.sum_congr rfl fun k _ => (shift k).sum_comp fun c => T c k
theorem sum_back {A : Type} [AddCommMonoid A] (T : Dev nD → Fin 7 → A) : ∑ c, ∑ k, T (bwd c k) k = ∑ c, ∑ k, T c k := by
  rw [Finset.sum_comm, Finset.sum_comm (f := fun c k => T c k)]
  exact Finset.sum_congr rfl fun k _ => (shift k).symm.sum_comp fun c => T c k

theorem owed_sum : (∑ d, O₀ d) = ∑ d, owed d := by
  have hB : ∑ d : Dev nD, ∑ k, oweB d k = ∑ d : Dev nD, tallyAt (bar d) () 7 := by
    unfold oweB
    rw [sum_around fun (d : Dev nD) (_ : Fin 7) => (tallyAt (bar d) () 1 : CellTallies nD τ sig Unit)]
    refine Finset.sum_congr rfl fun d _ => ?_
    rw [Fin.sum_univ_seven]
    simp only [tallyAt_add]
  have hX : ∑ d : Dev nD, ∑ k, oweX d k = ∑ d : Dev nD, ∑ k, tallyAt (cell 1 d (bwd d k)) () N := by
    rw [← sum_around fun (d : Dev nD) (k : Fin 7) => (tallyAt (cell 1 d (bwd d k)) () N : CellTallies nD τ sig Unit)]
    simp only [bwd_fwd]; rfl
  have hA : ∑ d : Dev nD, ∑ k, oweA d k = ∑ d : Dev nD, ∑ k, tallyAt (cell 3 d (fwd d k)) () N := by
    rw [← sum_back fun (d : Dev nD) (k : Fin 7) => (tallyAt (cell 3 d (fwd d k)) () N : CellTallies nD τ sig Unit)]
    simp only [fwd_bwd]; rfl
  unfold O₀ owing owed
  simp only [Finset.sum_add_distrib]
  rw [hB, hX, hA]
  have h (a x b : CellTallies nD τ sig Unit) : a + x + b = b + (x + a) := by rw [add_comm _ b, add_comm a x]
  exact h _ _ _

theorem owed_here (d : Dev nD) (g : GSem nD τ sig) (h : owed d g ≠ 0) : g.1 = (d.tc : Thread nD τ) := by
  by_contra hn
  have hz (sm : SemLoc sig) (n : ℕ) : (tallyAt ((d : Thread nD τ), sm) () n : CellTallies nD τ sig Unit) g = 0 := by
    ext
    rw [tallyAt_apply, if_neg fun h' => hn (by rw [h'.1])]; rfl
  refine h ?_
  unfold owed
  rw [Pi.add_apply, Pi.add_apply, Finset.sum_apply, Finset.sum_apply, hz, Finset.sum_eq_zero fun k _ => hz _ _, Finset.sum_eq_zero fun k _ => hz _ _, zero_add, zero_add]

theorem creds (c : Dev nD) : (Pipeline.launchCred O₀ c : sProp 𝕄) = credits c := by
  have ha (a b : CellTallies nD τ sig Unit) : (cred (a + b) : sProp 𝕄) = iprop(cred a ∗ cred b) := BI.Entails.antisymm (cred_add _ _).1 (cred_add _ _).2
  rw [Pipeline.launchCred_of_sum O₀ owed owed_sum owed_here]
  unfold owed credits
  rw [ha, ha, Pipeline.cred_finsetSum, Pipeline.cred_finsetSum]

/-! ## The launch's conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold start ghost G' records env
  iintro ⟨-, Hlev, Hcr, -, ⟨%K, ⟨HI, HR⟩, HG⟩⟩
  ihave Hc := (BIBase.Entails.of_eq (creds (F := F) c)) $$ Hcr
  imodintro
  isplitl
  · isplitr [Hc]
    · iexists K
      isplitr [HG]
      · isplitl [HI]; · iexact HI
        isplitl [HR] <;> iassumption
      iexact HG
    iexact Hc
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  rw [← sems_eq]
  iintro ⟨Hr, Hu, Ho⟩
  isplitl [Hu]; · iexact Hu
  isplitl [Ho] <;> iassumption

theorem stage_level : ∀ (w : Fin cfg0.W) (s : Fin ((cfg0.win w).nbuf)), level (.dma ((cfg0.win w).sem s) : SemLoc sig) = 0 := by decide

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ Finset.univ Finset.univ Finset.univ (.inr (by fin_cases w <;> fin_cases s <;> decide)) (.inr (by fin_cases w <;> fin_cases s <;> decide))
        (.inr (by fin_cases w <;> fin_cases s <;> decide))
    · show (levAts L lv : sProp 𝕄) ⊢ MayWait (c : Thread nD τ) _ () 0
      rw [MayWait_zero]; iintro -; iempintro

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every execution of the eight programs ends, with each window's array at its final contents on every device and every
    counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Exchange
-- ==== Proof.Frames.lean ====
/-
# The frames

Each program ends with its arguments as they were and every counter at zero. The kernel's two programs have one text, so
their frames are one run at two kinds of float.
-/
module

public import proofs.«01_k».proof.Defs
public import proofs.«01_k».proof.Proof.Gen.Kernel
public import proofs.«01_k».proof.Proof.Gen.ReferenceIdeal.Run
public import proofs.«01_k».proof.Proof.Run

@[expose] public section

noncomputable section

namespace Cert.Exchange

open Cert.KernelIdeal Cert.KernelIdeal.Gen Idealize.ShloMosaic Idealize.ShloMosaic.TcCoe Idealize.SL.Sem
open Idealize.ShloMosaic.Pipeline (Dat)

section
variable {F : FTy → Type} [FloatOps F]
variable (m : (ℓ : Loc nD τ sig) → Buf (Elt F) ℓ) (ρ : Dev nD → PrngReg)

/-- An argument's array keeps its contents. -/
theorem arg_kept {r : PUnit × MemSt nD τ sig (Elt F)} (h : QC m ρ r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨(h c (0 : Fin 6)).trans ((dats m ρ 0 c).arrAt_in (0 : Fin 6) rfl _), (h c (1 : Fin 6)).trans ((dats m ρ 0 c).arrAt_in (1 : Fin 6) rfl _),
    (h c (2 : Fin 6)).trans ((dats m ρ 0 c).arrAt_in (2 : Fin 6) rfl _), (h c (3 : Fin 6)).trans ((dats m ρ 0 c).arrAt_in (3 : Fin 6) rfl _),
    (h c (4 : Fin 6)).trans ((dats m ρ 0 c).arrAt_in (4 : Fin 6) rfl _)⟩

/-- The frame, for any floats. -/
theorem frame_any : θ_run defs (onTc (τ := τ) (main (F := F))) ⟨m, fun _ => 0, ρ⟩ fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) ∧ r.2.sem = fun _ => 0 :=
  (θ_run defs _ _).mono (fun _ h => ⟨arg_kept m ρ h.1, h.2⟩) (run_main m ρ)

theorem body_same : Cert.Kernel.cc0_body (F := F) = cc0_body := rfl

/-- The two programs' bodies are one. -/
theorem defs_same : Cert.Kernel.defs (F := F) = defs := by
  refine congrArg (Pipeline.defs pcfgs) (show Cert.Kernel.defs₀ (F := F) = defs₀ from ?_)
  unfold Cert.Kernel.defs₀ defs₀
  refine congrArg Defs.onTc (funext fun l => funext fun a => ?_)
  fin_cases l; rfl
end

theorem frame_kernel : Cert.quiescent_Kernel := fun m ρ _ => by
  have h := frame_any (F := Bits) m ρ
  rw [← defs_same] at h
  exact h

theorem frame_ideal : Cert.quiescent_KernelIdeal := fun m ρ _ => frame_any (F := Ideal) m ρ

theorem frame_reference : Cert.quiescent_ReferenceIdeal := fun m ρ _ =>
  (θ_run Cert.ReferenceIdeal.defs _ _).mono (fun _ h => ⟨fun c => (h c).2, funext fun g => by rcases g.2 with s | s <;> exact s.elim0⟩)
    (Cert.ReferenceIdeal.Value.run (F := Ideal) m ρ)

end Cert.Exchange

end
-- ==== Proof.Softmax.lean ====
/-
# A softmax head over the extended reals

One output of one head is a weighted mean of values with weights `exp score`. The kernel takes the weights as they are and
folds the scale of the scores into the query weights; the textbook scales the scores and subtracts a row's greatest score
before the exponential. Where activations, query weights and key weights are real numbers, both are the same extended
real, whatever the values are.
-/
module

public import Idealize.ShloMosaic.PureOps.Ideal.Laws

@[expose] public section

noncomputable section

namespace Cert.Head

open Idealize.ShloMosaic
open scoped BigOperators

/-! ## Sums of reals, and a real factor of a sum -/

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem mul_sum_real {ι : Type} (s : Finset ι) (a : ℝ) (ha : 0 ≤ a) (f : ι → EReal) :
    ∑ i ∈ s, (a : EReal) * f i = (a : EReal) * ∑ i ∈ s, f i := by
  classical
  induction s using Finset.induction_on with
  | empty => simp
  | insert b s hb ih =>
    rw [Finset.sum_insert hb, Finset.sum_insert hb, ih,
      EReal.left_distrib_of_nonneg_of_ne_top (EReal.coe_nonneg.2 ha) (EReal.coe_ne_top a)]

/-! ## The greatest of finitely many reals -/

/-- The fold of `max` from `⊥` over real numbers is `⊥` or a real number, and a real number as soon as there is one. -/
theorem fold_max_cases {ι : Type} (s : Finset ι) (f : ι → ℝ) :
    (s = ∅ ∧ s.fold max (⊥ : EReal) (fun i => (f i : EReal)) = ⊥) ∨ ∃ M : ℝ, s.fold max (⊥ : EReal) (fun i => (f i : EReal)) = (M : EReal) := by
  classical
  induction s using Finset.induction_on with
  | empty => exact .inl ⟨rfl, rfl⟩
  | insert a s ha ih =>
    refine .inr ?_
    rw [Finset.fold_insert ha]
    rcases ih with ⟨_, h⟩ | ⟨M, h⟩
    · exact ⟨f a, by rw [h]; exact max_eq_left bot_le⟩
    · exact ⟨max (f a) M, by rw [h]; exact (EReal.coe_strictMono.monotone.map_max).symm⟩

theorem fold_max_real {n : ℕ} [NeZero n] (f : Fin n → ℝ) :
    ∃ M : ℝ, (Finset.univ : Finset (Fin n)).fold max (⊥ : EReal) (fun i => (f i : EReal)) = (M : EReal) := by
  rcases fold_max_cases Finset.univ f with ⟨h, _⟩ | h
  · exact absurd h (Finset.univ_nonempty).ne_empty
  · exact h

/-! ## A common factor of the weights leaves the mean as it is -/

theorem mean_shift {n : ℕ} [NeZero n] (sc : Fin n → ℝ) (u : Fin n → EReal) (M : ℝ) :
    Ideal.div (∑ j, u j * Ideal.exp ((sc j : EReal) - (M : EReal))) (∑ j, Ideal.exp ((sc j : EReal) - (M : EReal)))
      = Ideal.div (∑ j, Ideal.exp (sc j : EReal) * u j) (∑ j, Ideal.exp (sc j : EReal)) := by
  have he : ∀ j, Ideal.exp ((sc j : EReal) - (M : EReal)) = (Real.exp (-M) : EReal) * Ideal.exp (sc j : EReal) := fun j => by
    rw [← EReal.coe_sub, Ideal.exp_coe, Ideal.exp_coe, ← EReal.coe_mul, ← Real.exp_add]
    congr 2; ring
  have hp : (0 : ℝ) < Real.exp (-M) := Real.exp_pos _
  have hl : ∑ j, Ideal.exp (sc j : EReal) = ((∑ j, Real.exp (sc j) : ℝ) : EReal) := by
    rw [← coe_sum]; rfl
  have hL : (0 : ℝ) < ∑ j, Real.exp (sc j) := Finset.sum_pos (fun j _ => Real.exp_pos _) Finset.univ_nonempty
  have hn : ∑ j, u j * Ideal.exp ((sc j : EReal) - (M : EReal)) = (Real.exp (-M) : EReal) * ∑ j, Ideal.exp (sc j : EReal) * u j := by
    rw [← mul_sum_real _ _ hp.le]
    exact Finset.sum_congr rfl fun j _ => by rw [he j, mul_comm, mul_assoc]
  have hd : ∑ j, Ideal.exp ((sc j : EReal) - (M : EReal)) = ((Real.exp (-M) * ∑ j, Real.exp (sc j) : ℝ) : EReal) := by
    rw [EReal.coe_mul, ← hl, ← mul_sum_real _ _ hp.le]
    exact Finset.sum_congr rfl fun j _ => he j
  rw [hn, hd, hl, Ideal.div_coe (mul_pos hp hL).ne', Ideal.div_coe hL.ne', mul_comm (Real.exp (-M) : EReal), mul_assoc,
    ← EReal.coe_mul]
  congr 2
  field_simp

/-! ## The two ways to a score -/

section score

variable {n p : ℕ}

/-- The real number that both ways reach. -/
def score (e : ℝ) (x y : Fin n → ℝ) (q k : Fin n → Fin p → ℝ) : ℝ := (∑ d, (∑ i, x i * q i d) * ∑ i, y i * k i d) * e

/-- The scale in the query weights. -/
theorem score_folded (e : ℝ) (x y : Fin n → ℝ) (q k : Fin n → Fin p → ℝ) :
    ∑ d, (∑ i, (x i : EReal) * ((q i d : EReal) * (e : EReal))) * (∑ i, (y i : EReal) * (k i d : EReal)) = (score e x y q k : EReal) := by
  simp only [← EReal.coe_mul, coe_sum, score, EReal.coe_eq_coe_iff, Finset.sum_mul]
  refine Finset.sum_congr rfl fun d _ => Finset.sum_congr rfl fun i _ => ?_
  ring

/-- The scale after the product. -/
theorem score_scaled (e : ℝ) (x y : Fin n → ℝ) (q k : Fin n → Fin p → ℝ) :
    (∑ d, (∑ i, (x i : EReal) * (q i d : EReal)) * (∑ i, (y i : EReal) * (k i d : EReal))) * (e : EReal) = (score e x y q k : EReal) := by
  simp only [← EReal.coe_mul, coe_sum, score]

end score

/-! ## One output of one head -/

/-- An extended real that is a real number. -/
def IsReal (a : EReal) : Prop := ∃ r : ℝ, a = (r : EReal)

theorem isReal_of_abs_lt {a : EReal} (h : max a (-a) < ⊤) : IsReal a := by
  induction a using EReal.rec with
  | bot => simp at h
  | top => simp at h
  | coe r => exact ⟨r, rfl⟩

/-- The kernel's output of a head: the query row `x`, the rows `y j` of the sequence, the head's weights, its values `u`. -/
def kernelHead {r n p : ℕ} (e : EReal) (x : Fin n → EReal) (y : Fin r → Fin n → EReal) (q k : Fin n → Fin p → EReal)
    (u : Fin r → EReal) : EReal :=
  Ideal.div (∑ j, Ideal.exp (∑ d, (∑ i, x i * (q i d * e)) * ∑ i, y j i * k i d) * u j)
    (∑ j, Ideal.exp (∑ d, (∑ i, x i * (q i d * e)) * ∑ i, y j i * k i d))

/-- The textbook's. -/
def bookHead {r n p : ℕ} (e b : EReal) (x : Fin n → EReal) (y : Fin r → Fin n → EReal) (q k : Fin n → Fin p → EReal)
    (u : Fin r → EReal) : EReal :=
  Ideal.div
    (∑ j, u j * Ideal.exp ((∑ d, (∑ i, x i * q i d) * ∑ i, y j i * k i d) * e
      - Finset.univ.fold max b fun j' => (∑ d, (∑ i, x i * q i d) * ∑ i, y j' i * k i d) * e))
    (∑ j, Ideal.exp ((∑ d, (∑ i, x i * q i d) * ∑ i, y j i * k i d) * e
      - Finset.univ.fold max b fun j' => (∑ d, (∑ i, x i * q i d) * ∑ i, y j' i * k i d) * e))

/-- The two are equal where the activations and the weights of queries and keys are real. -/
theorem head_eq {r n p : ℕ} [NeZero r] (e : ℝ) (x : Fin n → EReal) (y : Fin r → Fin n → EReal) (q k : Fin n → Fin p → EReal)
    (u : Fin r → EReal) (hx : ∀ i, IsReal (x i)) (hy : ∀ j i, IsReal (y j i)) (hq : ∀ i d, IsReal (q i d)) (hk : ∀ i d, IsReal (k i d)) :
    kernelHead (e : EReal) x y q k u = bookHead (e : EReal) ⊥ x y q k u := by
  choose x' hx using hx
  choose y' hy using hy
  choose q' hq using hq
  choose k' hk using hk
  obtain rfl : x = fun i => (x' i : EReal) := funext hx
  obtain rfl : y = fun j i => (y' j i : EReal) := funext fun j => funext (hy j)
  obtain rfl : q = fun i d => (q' i d : EReal) := funext fun i => funext (hq i)
  obtain rfl : k = fun i d => (k' i d : EReal) := funext fun i => funext (hk i)
  unfold kernelHead bookHead
  simp only [score_folded, score_scaled]
  obtain ⟨M, hM⟩ := fold_max_real fun j => score e x' (y' j) q' k'
  rw [hM]
  exact (mean_shift _ u M).symm

/-! ## The literals -/

theorem eighth_bf16 : Ideal.ofBits .bf16 0x3E00#16 = ((1 / 8 : ℝ) : EReal) := by
  simp [Ideal.ofBits, Ideal.ieee, -EReal.coe_mul]; norm_num
theorem eighth_f32 : Ideal.ofBits .f32 0x3E000000#32 = ((1 / 8 : ℝ) : EReal) := by
  simp [Ideal.ofBits, Ideal.ieee, -EReal.coe_mul]; norm_num
theorem bottom_f32 : Ideal.ofBits .f32 0xFF800000#32 = ⊥ := by
  simp [Ideal.ofBits, Ideal.ieee]
theorem top_f32 : Ideal.ofBits .f32 0x7F800000#32 = ⊤ := by
  simp [Ideal.ofBits, Ideal.ieee]

end Cert.Head

end
-- ==== Proof.KernelValue.lean ====
/-
# A device's result, element by element

Over the reals one device's contribution to a row of another device's result is a sum over its 512 head lanes: the head's
output at that lane times the lane's row of the output weights. A device's result is the sum of the contributions of all
eight devices to its own activations.
-/
module

public import proofs.«01_k».proof.Proof.Data
public import proofs.«01_k».proof.Proof.Softmax
public import Idealize.ShloMosaic.Lib.Pointwise

@[expose] public section

noncomputable section

namespace Cert.Exchange

open Cert.KernelIdeal Cert.KernelIdeal.Gen

open Idealize.ShloMosaic
open Idealize.ShloMosaic.TcCoe
open scoped BigOperators

/-! ## The contribution of one device's heads -/

section contribution

variable {F : FTy → Type} [FloatOps F]

/-- What the heads with the weights `q`, `k`, `v`, `o` contribute to the rows of the activations `X`, before it is rounded
for sending. -/
def contrib (q k v o : Vec F S512x512 .bf16) (X : Vec F S1x256x512 .bf16) : FVec F S256x512 .f32 :=
  k0_pay10 (k0_pay5 o) (k0_pay8 q k v X) (k0_pay9 q k X)

variable (m : (ℓ : Loc nD τ sig) → Buf (Elt F) ℓ)

/-- A partial is the contribution rounded, with an axis of length one in front. -/
theorem part_eq (j : Dev nD) (X : Blk F) :
    part m j X = (shapeCast S1x256x512 (shapeCast S1x256x512
      (truncf .bf16 (contrib (qv m j) (kv m j) (vv m j) (ov m j) X) bitsLt_bf16_f32) shapeCasts_S256x512_S1x256x512
      : FVec F S1x256x512 .bf16) shapeCasts_S1x256x512_S1x256x512) := rfl

theorem own_eq (c : Dev nD) : own m c = contrib (qv m c) (kv m c) (vv m c) (ov m c) (xb m c) := rfl

end contribution

/-! ## Over the reals, at an index -/

/-- Lane `d` of the head that lane `x` belongs to. -/
def lane (x : Fin 512) (d : Fin 64) : Fin 512 := ⟨x.val / 64 * 64 + d.val, by have := x.isLt; have := d.isLt; omega⟩

/-- Row `s` of batch `b` of a device's activations laid out as 256 rows. -/
def row (b : Fin 2) (s : Fin 128) : Fin 256 := ⟨b.val * 128 + s.val, by have := b.isLt; have := s.isLt; omega⟩

/-- The output of lane `x` of the device's heads, for row `s` of batch `b`. -/
def laneOut (q k v : Vec Ideal S512x512 .bf16) (X : Vec Ideal S1x256x512 .bf16) (b : Fin 2) (s : Fin 128) (x : Fin 512) : EReal :=
  Head.kernelHead (r := 128) (n := 512) (p := 64) (Ideal.ofBits .bf16 0x3E00#16)
    (fun i => X (ix3 0 (row b s) i)) (fun j i => X (ix3 0 (row b j) i))
    (fun i d => q (ix2 i (lane x d))) (fun i d => k (ix2 i (lane x d)))
    (fun j => ∑ i : Fin 512, X (ix3 0 (row b j) i) * v (ix2 i x))

theorem contrib_apply (q k v o : Vec Ideal S512x512 .bf16) (X : Vec Ideal S1x256x512 .bf16) (b : Fin 2) (s : Fin 128) (t : Fin 512) :
    contrib (F := Ideal) q k v o X (ix2 (row b s) t) = ∑ x : Fin 512, laneOut q k v X b s x * o (ix2 x t) := by
  pointwise [contrib, k0_pay10, k0_pay9, k0_pay8, k0_pay7, k0_pay6, k0_pay2, k0_pay3, k0_pay4, k0_pay5]
  refine Finset.sum_congr rfl fun x _ => ?_
  have h1 : ∀ d : Fin 64, ∀ h, (⟨((row b s).val / 128 * 8 + x.val / 64) % 8 * 64 + d.val, h⟩ : Fin 512) = lane x d := fun d h => by
    apply Fin.ext
    have := b.isLt; have := s.isLt; have := x.isLt
    simp only [row, lane]; omega
  have h2 : ∀ j : Fin 128, ∀ h, (⟨((row b s).val / 128 * 8 + x.val / 64) / 8 * 128 + j.val, h⟩ : Fin 256) = row b j := fun j h => by
    apply Fin.ext
    have := b.isLt; have := s.isLt; have := x.isLt
    simp only [row]; omega
  simp only [h1, h2]
  rfl

variable (m : (ℓ : Loc nD τ sig) → Buf (Elt Ideal) ℓ)

/-- The slot of a device's own activations is its argument, the two batches' rows one after the other. -/
theorem xb_apply (c : Dev nD) (b : Fin 2) (s : Fin 128) (i : Fin 512) :
    (xb m c : Vec Ideal S1x256x512 .bf16) (ix3 0 (row b s) i) = (xv m c : Vec Ideal S2x128x512 .bf16) (ix3 b s i) := by
  unfold xb
  pointwise [k0_pay1]
  have := b.isLt; have := s.isLt
  congr 2 <;> apply Fin.ext <;> simp only [row] <;> omega

/-- Device `j`'s contribution to device `c`'s rows. -/
def share (c j : Dev nD) (b : Fin 2) (s : Fin 128) (t : Fin 512) : EReal :=
  contrib (F := Ideal) (qv m j) (kv m j) (vv m j) (ov m j) (xb m c) (ix2 (row b s) t)

theorem rcv_apply (c : Dev nD) (k : Fin 7) (b : Fin 2) (s : Fin 128) (t : Fin 512) :
    (rcv m c k : Vec Ideal S1x256x512 .bf16) (ix3 0 (row b s) t) = share m c (fwd c k) b s t := by
  unfold rcv
  rw [part_eq]
  unfold share
  generalize contrib (F := Ideal) _ _ _ _ _ = C
  pointwise

/-- A device's result is the sum of all devices' contributions. -/
theorem outv_apply (c : Dev nD) (b : Fin 2) (s : Fin 128) (t : Fin 512) :
    (outv m c : Vec Ideal S2x128x512 .f32) (ix3 b s t) = ∑ j : Dev nD, share m c j b s t := by
  have hs : ∑ j : Dev nD, share m c j b s t = share m c c b s t + ∑ k : Fin 7, share m c (fwd c k) b s t := by
    rw [univ_fwd c, Finset.sum_insert (by revert c; decide), Finset.sum_map]
    rfl
  have hr := rcv_apply m c
  have ho : own m c (ix2 (row b s) t) = share m c c b s t := rfl
  unfold outv
  generalize own m c = O at ho ⊢
  generalize rcv m c = R at hr ⊢
  pointwise [k0_pay33, k0_pay32, k0_pay31, k0_pay30]
  have h1 : ∀ h, (⟨b.val * 128 + s.val, h⟩ : Fin 256) = row b s := fun _ => rfl
  simp only [h1, hr, ho]
  rw [hs, Fin.sum_univ_seven]
  simp only [add_assoc]

end Cert.Exchange

end
-- ==== Proof.BookValue.lean ====
/-
# The reference's result, element by element

Over the reals a row of the reference's result is a sum over all 4096 head lanes: the textbook softmax head's output at the
lane times the lane's row of the output weights.
-/
module

public import proofs.«01_k».proof.Proof.Gen.ReferenceIdeal.Run
public import proofs.«01_k».proof.Proof.Softmax
public import Idealize.ShloMosaic.Lib.Pointwise

@[expose] public section

noncomputable section

namespace Cert.Book

open Cert.ReferenceIdeal Cert.ReferenceIdeal.Gen

open Idealize.ShloMosaic
open Idealize.ShloMosaic.TcCoe
open scoped BigOperators

/-- Lane `d` of the head that lane `x` of the 4096 belongs to. -/
def wideLane (x : Fin 4096) (d : Fin 64) : Fin 4096 := ⟨x.val / 64 * 64 + d.val, by have := x.isLt; have := d.isLt; omega⟩

/-- The output of lane `x` for row `s` of batch `b`. -/
def bookOut (x : Vec Ideal S16x128x512 .bf16) (q k v : Vec Ideal S512x4096 .bf16) (b : Fin 16) (s : Fin 128) (l : Fin 4096) : EReal :=
  Head.bookHead (r := 128) (n := 512) (p := 64) (Ideal.ofBits .f32 0x3E000000#32) (Ideal.ofBits .f32 0xFF800000#32)
    (fun i => x (ix3 b s i)) (fun j i => x (ix3 b j i))
    (fun i d => q (ix2 i (wideLane l d))) (fun i d => k (ix2 i (wideLane l d)))
    (fun j => ∑ i : Fin 512, x (ix3 b j i) * v (ix2 i l))

variable (m : (ℓ : Loc nD τ sig) → Buf (Elt Ideal) ℓ) (c : Dev nD)

theorem result_apply (b : Fin 16) (s : Fin 128) (t : Fin 512) :
    (Value.res_out0 m c : Vec Ideal S16x128x512 .f32) (ix3 b s t)
      = ∑ l : Fin 4096, bookOut (m ((c : Thread nD τ).loc main_arg0)) (m ((c : Thread nD τ).loc main_arg1))
          (m ((c : Thread nD τ).loc main_arg3)) (m ((c : Thread nD τ).loc main_arg4)) b s l
          * (m ((c : Thread nD τ).loc main_arg2) : Vec Ideal S4096x512 .bf16) (ix2 l t) := by
  pointwise [Value.res_out0, Value.res_main_v27]
  rfl

end Cert.Book

end
-- ==== Proof.FinalArray.lean ====
/-
# The result array is the staged result, and the staged arguments are the argument arrays

Each window has one block, the whole of its array: what the body leaves in the result's window is what the result array
ends with, and what the body reads of an argument is the argument.
-/
module

public import proofs.«01_k».proof.Proof.Run
public import Idealize.ShloMosaic.Lib.Pipeline.Value

@[expose] public section

noncomputable section

namespace Cert.Exchange

open Cert.KernelIdeal Cert.KernelIdeal.Gen

open Idealize.ShloMosaic
open Idealize.ShloMosaic.TcCoe
open Idealize.ShloMosaic.Pipeline (Dat)

variable {F : FTy → Type} [FloatOps F]
variable (m : (ℓ : Loc nD τ sig) → Buf (Elt F) ℓ) (ρ : Dev nD → PrngReg) (c : Dev nD)

/-! ## The arguments -/

/-- A rectangle from zero in steps of one, over a whole array, leaves an index where it is. -/
theorem from_zero (n i : ℕ) : 0 * n + 1 * i = i := by omega

theorem xv_eq : xv m c = m ((c : Thread nD τ).loc main_arg0) :=
  funext fun i => congrArg (m ((c : Thread nD τ).loc main_arg0)) (funext fun a => Fin.ext (from_zero (S2x128x512.size a) (i a).val))
theorem qv_eq : qv m c = m ((c : Thread nD τ).loc main_arg1) :=
  funext fun i => congrArg (m ((c : Thread nD τ).loc main_arg1)) (funext fun a => Fin.ext (from_zero (S512x512.size a) (i a).val))
theorem ov_eq : ov m c = m ((c : Thread nD τ).loc main_arg2) :=
  funext fun i => congrArg (m ((c : Thread nD τ).loc main_arg2)) (funext fun a => Fin.ext (from_zero (S512x512.size a) (i a).val))
theorem kv_eq : kv m c = m ((c : Thread nD τ).loc main_arg3) :=
  funext fun i => congrArg (m ((c : Thread nD τ).loc main_arg3)) (funext fun a => Fin.ext (from_zero (S512x512.size a) (i a).val))
theorem vv_eq : vv m c = m ((c : Thread nD τ).loc main_arg4) :=
  funext fun i => congrArg (m ((c : Thread nD τ).loc main_arg4)) (funext fun a => Fin.ext (from_zero (S512x512.size a) (i a).val))

/-! ## The result -/

/-- The part of the window's contents that is written back, read through the block, is all of them. -/
theorem cut_eq (X : (cc0_stg5_0 : Ref sig .tc).ty.Contents (Elt F)) :
    (cfg0.win 5).cut (grid0.coords t0_0) X = (win0_5.blk t0_0).view.read (Elt F) X :=
  funext fun i => congrArg X (funext fun a => Fin.ext (from_zero (S2x128x512.size a) (i a).val).symm)

theorem flushed_eq (t : Fin cfg0.N) :
    (dats m ρ 0 c).flushed 5 t = (win0_5.blk t).view.read (Elt F) (outv m c) := by
  rcases fin_N0 t with rfl
  exact cut_eq (outv m c)

theorem mem_blk (t : Fin cfg0.N) (i : S2x128x512.Idx) : i ∈ ((cfg0.win 5).blk t).view.set := by
  show i ∈ ((View.whole main_v1).slice (win0_5.rect t)).set
  rw [View.set_slice_whole, Rect.mem_set_unit]
  rcases fin_N0 t with rfl
  intro a
  match a with
  | ⟨0, _⟩ => exact ⟨Nat.zero_le _, (i 0).isLt⟩
  | ⟨1, _⟩ => exact ⟨Nat.zero_le _, (i 1).isLt⟩
  | ⟨2, _⟩ => exact ⟨Nat.zero_le _, (i 2).isLt⟩

theorem final_eq : finalA m ρ c 5 = outv m c :=
  (dats m ρ 0 c).arrAt_eq_of_cover 5 (outv m c) (fun t _ => flushed_eq m ρ c t)
    fun i => ⟨t0_0, flush0_5 _, mem_blk t0_0 i⟩

end Cert.Exchange

end
-- ==== Proof.Equal.lean ====
/-
# The kernel's result is the reference's

Each device's arguments are its blocks of the reference's. A device's lanes are 512 consecutive ones of the reference's 4096,
whole heads of them, so the reference's sum over all lanes is the kernel's sum over the devices of a sum over the device's
lanes, and lane by lane the two heads' outputs are equal.
-/
module

public import proofs.«01_k».proof.Defs
public import proofs.«01_k».proof.Proof.Gen.Pre_finite_xqk_KernelIdeal
public import proofs.«01_k».proof.Proof.KernelValue
public import proofs.«01_k».proof.Proof.BookValue
public import proofs.«01_k».proof.Proof.FinalArray
public import proofs.«01_k».proof.Proof.Frames
public import Idealize.ShloMosaic.Lib.Layout
public import Idealize.ShloMosaic.Lib.ReduceAll

@[expose] public section

noncomputable section

namespace Cert.Exchange

open Cert.KernelIdeal Cert.KernelIdeal.Gen
open Idealize.ShloMosaic Idealize.ShloMosaic.TcCoe Idealize.SL.Sem
open scoped BigOperators

/-! ## Where a device's blocks lie -/

/-- Lane `x` of device `j`, among the 4096. -/
def wide (j : Fin 8) (x : Fin 512) : Fin 4096 := ⟨j.val * 512 + x.val, by have := j.isLt; have := x.isLt; omega⟩
/-- Batch `b` of device `c`, among the 16. -/
def batch (c : Fin 8) (b : Fin 2) : Fin 16 := ⟨c.val * 2 + b.val, by have := c.isLt; have := b.isLt; omega⟩

section blocks

variable {α : Type}

theorem block_batches (c : Fin 8) (v : (⟨3, ![16, 128, 512]⟩ : Shape).Idx → α) (b : Fin 2) (s : Fin 128) (i : Fin 512) :
    (Layout.block ⟨3, ![2, 128, 512]⟩ ⟨3, ![16, 128, 512]⟩ 0 8 c v) (ix3 b s i) = v (ix3 (batch c b) s i) :=
  congrArg v (funext fun a => Fin.ext (match a with
    | ⟨0, _⟩ => rfl
    | ⟨1, _⟩ => rfl
    | ⟨2, _⟩ => rfl))

theorem block_columns (c : Fin 8) (v : (⟨2, ![512, 4096]⟩ : Shape).Idx → α) (i t : Fin 512) :
    (Layout.block ⟨2, ![512, 512]⟩ ⟨2, ![512, 4096]⟩ 1 8 c v) (ix2 i t) = v (ix2 i (wide c t)) :=
  congrArg v (funext fun a => Fin.ext (match a with
    | ⟨0, _⟩ => rfl
    | ⟨1, _⟩ => rfl))

theorem block_rows (c : Fin 8) (v : (⟨2, ![4096, 512]⟩ : Shape).Idx → α) (t e : Fin 512) :
    (Layout.block ⟨2, ![512, 512]⟩ ⟨2, ![4096, 512]⟩ 0 8 c v) (ix2 t e) = v (ix2 (wide c t) e) :=
  congrArg v (funext fun a => Fin.ext (match a with
    | ⟨0, _⟩ => rfl
    | ⟨1, _⟩ => rfl))

end blocks

/-- All lanes are the devices' lanes. -/
theorem sum_wide (f : Fin 4096 → EReal) : ∑ l, f l = ∑ j : Fin 8, ∑ x : Fin 512, f (wide j x) := by
  rw [← Fintype.sum_prod_type' (f := fun (j : Fin 8) (x : Fin 512) => f (wide j x))]
  refine (Fintype.sum_equiv (finProdFinEquiv (m := 8) (n := 512)) _ f fun p => congrArg f (Fin.ext ?_)).symm
  show p.1.val * 512 + p.2.val = p.2.val + 512 * p.1.val
  omega

/-- The lanes of a lane's head, on a device and among all. -/
theorem wide_lane (j : Fin 8) (x : Fin 512) (d : Fin 64) : Book.wideLane (wide j x) d = wide j (lane x d) :=
  Fin.ext (by simp only [Book.wideLane, wide, lane]; omega)

/-! ## The precondition -/

section finite

variable (m : (ℓ : Loc nD τ sig) → Buf (Elt Ideal) ℓ)

theorem real_of_mask {S : Shape} {axes : List (Fin S.rank)} (x : Vec Ideal S .bf16)
    (hb : (⟨0, ![]⟩ : Shape).BroadcastsInDim S (![] : Fin 0 → Fin S.rank)) (hr : S.ReducesTo axes ⟨0, ![]⟩) (hu : 0 < (⟨0, ![]⟩ : Shape).numel)
    (j : (⟨0, ![]⟩ : Shape).Idx)
    (h : Host.reduce IntOp.andi (cmpf .olt (Host.absf (extf (F := Ideal) (φ := .bf16) .f32 x bitsLt_bf16_f32))
      (broadcastInDim S ![] hb (constant ⟨0, ![]⟩ .f32 0x7F800000#32))) (constantI ⟨0, ![]⟩ 1 1#1) hr hu j = 1#1) (i : S.Idx) :
    Head.IsReal (x i) := by
  haveI : Subsingleton (⟨0, ![]⟩ : Shape).Idx := ⟨fun a b => funext fun k => k.elim0⟩
  have hi := Host.reduce_andi_all _ _ hr hu j h i
  apply Head.isReal_of_abs_lt
  have h2 : Ideal.cmp .olt (max (x i) (-(x i))) (Ideal.ofBits .f32 0x7F800000#32) = 1#1 := hi
  rw [Head.top_f32] at h2
  by_contra hn
  simp [Ideal.cmp, hn] at h2

theorem real_args (h : Cert.Pre_KernelIdeal_finite_xqk_KernelIdeal m) (c : Dev nD) :
    (∀ i, Head.IsReal ((m ((c : Thread nD τ).loc main_arg0) : Vec Ideal S2x128x512 .bf16) i))
    ∧ (∀ i, Head.IsReal ((m ((c : Thread nD τ).loc main_arg1) : Vec Ideal S512x512 .bf16) i))
    ∧ (∀ i, Head.IsReal ((m ((c : Thread nD τ).loc main_arg3) : Vec Ideal S512x512 .bf16) i)) := by
  have hc := congrFun (h c) (fun k => k.elim0)
  obtain ⟨h0, h1⟩ := IntOp.andi_eq_one.1 hc
  obtain ⟨h1, h2⟩ := IntOp.andi_eq_one.1 h1
  exact ⟨fun i => real_of_mask _ _ _ _ _ h0 i, fun i => real_of_mask _ _ _ _ _ h1 i, fun i => real_of_mask _ _ _ _ _ h2 i⟩

end finite

/-! ## The two results -/

section equal

variable (m : (ℓ : Loc nD τ sig) → Buf (Elt Ideal) ℓ)
variable (x : Vec Ideal ⟨3, ![16, 128, 512]⟩ .bf16) (q k v : Vec Ideal ⟨2, ![512, 4096]⟩ .bf16) (o : Vec Ideal ⟨2, ![4096, 512]⟩ .bf16)

/-- Every device's arguments are its blocks of the five arrays. -/
def Blocks : Prop := ∀ c : Dev nD,
  m ((c : Thread nD τ).loc main_arg0) = Layout.block ⟨3, ![2, 128, 512]⟩ ⟨3, ![16, 128, 512]⟩ 0 8 c x
  ∧ m ((c : Thread nD τ).loc main_arg1) = Layout.block ⟨2, ![512, 512]⟩ ⟨2, ![512, 4096]⟩ 1 8 c q
  ∧ m ((c : Thread nD τ).loc main_arg2) = Layout.block ⟨2, ![512, 512]⟩ ⟨2, ![4096, 512]⟩ 0 8 c o
  ∧ m ((c : Thread nD τ).loc main_arg3) = Layout.block ⟨2, ![512, 512]⟩ ⟨2, ![512, 4096]⟩ 1 8 c k
  ∧ m ((c : Thread nD τ).loc main_arg4) = Layout.block ⟨2, ![512, 512]⟩ ⟨2, ![512, 4096]⟩ 1 8 c v

variable {m x q k v o}

theorem rows_apply (hB : Blocks m x q k v o) (c : Dev nD) (b : Fin 2) (s : Fin 128) (i : Fin 512) :
    (xb m c : Vec Ideal S1x256x512 .bf16) (ix3 0 (row b s) i) = x (ix3 (batch c b) s i) := by
  rw [xb_apply, xv_eq, (hB c).1]; exact block_batches c x b s i
theorem query_apply (hB : Blocks m x q k v o) (j : Dev nD) (i t : Fin 512) :
    (qv m j : Vec Ideal S512x512 .bf16) (ix2 i t) = q (ix2 i (wide j t)) := by
  rw [qv_eq, (hB j).2.1]; exact block_columns j q i t
theorem outer_apply (hB : Blocks m x q k v o) (j : Dev nD) (t e : Fin 512) :
    (ov m j : Vec Ideal S512x512 .bf16) (ix2 t e) = o (ix2 (wide j t) e) := by
  rw [ov_eq, (hB j).2.2.1]; exact block_rows j o t e
theorem key_apply (hB : Blocks m x q k v o) (j : Dev nD) (i t : Fin 512) :
    (kv m j : Vec Ideal S512x512 .bf16) (ix2 i t) = k (ix2 i (wide j t)) := by
  rw [kv_eq, (hB j).2.2.2.1]; exact block_columns j k i t
theorem value_apply (hB : Blocks m x q k v o) (j : Dev nD) (i t : Fin 512) :
    (vv m j : Vec Ideal S512x512 .bf16) (ix2 i t) = v (ix2 i (wide j t)) := by
  rw [vv_eq, (hB j).2.2.2.2]; exact block_columns j v i t

/-- One lane's output, on its device and in the reference. -/
theorem lane_eq (hB : Blocks m x q k v o) (hp : Cert.Pre_KernelIdeal_finite_xqk_KernelIdeal m) (c j : Dev nD) (b : Fin 2)
    (s : Fin 128) (l : Fin 512) :
    laneOut (qv m j) (kv m j) (vv m j) (xb m c) b s l = Book.bookOut x q k v (batch c b) s (wide j l) := by
  have hx : ∀ (s' : Fin 128) (i : Fin 512), Head.IsReal (x (ix3 (batch c b) s' i)) := fun s' i => by
    rw [← rows_apply hB, xb_apply, xv_eq]; exact (real_args m hp c).1 _
  have hq : ∀ i t : Fin 512, Head.IsReal (q (ix2 i (wide j t))) := fun i t => by
    rw [← query_apply hB, qv_eq]; exact (real_args m hp j).2.1 _
  have hk : ∀ i t : Fin 512, Head.IsReal (k (ix2 i (wide j t))) := fun i t => by
    rw [← key_apply hB, kv_eq]; exact (real_args m hp j).2.2 _
  unfold laneOut Book.bookOut
  simp only [rows_apply hB, query_apply hB, key_apply hB, value_apply hB, wide_lane]
  rw [Head.eighth_bf16, Head.eighth_f32, Head.bottom_f32]
  exact Head.head_eq _ _ _ _ _ _ (fun i => hx s i) (fun s' i => hx s' i) (fun i d => hq i _) (fun i d => hk i _)

end equal

/-- Every device ends with its block of the reference's result. -/
theorem outv_eq (m : (ℓ : Loc nD τ sig) → Buf (Elt Ideal) ℓ)
    (m' : (ℓ : Loc Cert.ReferenceIdeal.nD Cert.ReferenceIdeal.τ Cert.ReferenceIdeal.sig) → Buf (Elt Ideal) ℓ) (r : Dev Cert.ReferenceIdeal.nD)
    (hB : Blocks m (m' ((r : Thread Cert.ReferenceIdeal.nD Cert.ReferenceIdeal.τ).loc Cert.ReferenceIdeal.main_arg0))
      (m' ((r : Thread Cert.ReferenceIdeal.nD Cert.ReferenceIdeal.τ).loc Cert.ReferenceIdeal.main_arg1))
      (m' ((r : Thread Cert.ReferenceIdeal.nD Cert.ReferenceIdeal.τ).loc Cert.ReferenceIdeal.main_arg3))
      (m' ((r : Thread Cert.ReferenceIdeal.nD Cert.ReferenceIdeal.τ).loc Cert.ReferenceIdeal.main_arg4))
      (m' ((r : Thread Cert.ReferenceIdeal.nD Cert.ReferenceIdeal.τ).loc Cert.ReferenceIdeal.main_arg2)))
    (hp : Cert.Pre_KernelIdeal_finite_xqk_KernelIdeal m) (c : Dev nD) :
    outv m c = Layout.block ⟨3, ![2, 128, 512]⟩ ⟨3, ![16, 128, 512]⟩ 0 8 c
      (Cert.ReferenceIdeal.Value.res_out0 m' r : Vec Ideal ⟨3, ![16, 128, 512]⟩ .f32) := by
  funext i
  obtain ⟨b, s, t, rfl⟩ : ∃ (b : Fin 2) (s : Fin 128) (t : Fin 512), i = ix3 b s t := ⟨i 0, i 1, i 2, by
    funext a; match a with
    | ⟨0, _⟩ => rfl
    | ⟨1, _⟩ => rfl
    | ⟨2, _⟩ => rfl⟩
  refine (outv_apply m c b s t).trans (Eq.symm ?_)
  refine (block_batches c _ b s t).trans ((Book.result_apply m' r (batch c b) s t).trans ((sum_wide _).trans ?_))
  refine Finset.sum_congr rfl fun j _ => Eq.symm ?_
  unfold share
  rw [contrib_apply]
  exact Finset.sum_congr rfl fun l _ => by rw [lane_eq hB hp, outer_apply hB]

/-! ## The claim -/

theorem algebraic_xqk : Cert.algebraic_KernelIdeal_ReferenceIdeal_pre_finite_xqk_KernelIdeal := fun m g m' g' hp hB =>
  ⟨Cert.ReferenceIdeal.Value.res_out0 m' 0,
    (θ_run defs _ _).mono (fun _ h c => ⟨(h.1 c (5 : Fin 6)).trans ((final_eq m g c).trans (outv_eq m m' 0 hB hp c)), arg_kept m g h.1 c⟩)
      (run_main m g),
    (θ_run Cert.ReferenceIdeal.defs _ _).mono (fun _ h => h 0) (Cert.ReferenceIdeal.Value.run m' g')⟩

end Cert.Exchange

end
-- ==== Proof.lean ====
/-
# The certificate

`Cert.Claim`: the frames of the kernel, of its idealization and of the reference, and the value claim over the reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_xqk_KernelIdeal
public import proofs.«01_k».proof.Proof.Gen.Pre_finite_xqk_ReferenceIdeal
public import proofs.«01_k».proof.Proof.Frames
public import proofs.«01_k».proof.Proof.Equal
public import Idealize.ShloMosaic.Adequacy
public import Idealize.ShloMosaic.Init

@[expose] public section

noncomputable section

namespace Cert.Proof

open Idealize.ShloMosaic Idealize.SL.Sem Cert.Kernel Cert.Exchange

theorem claim : Cert.Claim :=
  ⟨Cert.Kernel.Gen.facts, Cert.KernelIdeal.Gen.facts, Cert.ReferenceIdeal.Gen.facts, Cert.Pre_finite_xqk_KernelIdeal.Gen.facts,
    Cert.Pre_finite_xqk_ReferenceIdeal.Gen.facts,
    frame_kernel, frame_ideal, fun m ρ _ => frame_ideal m ρ trivial, frame_reference, fun m ρ _ => frame_reference m ρ trivial, trivial, algebraic_xqk⟩

end Cert.Proof

end
